-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 1, 4096, 2048]⟩ ⟨4, ![2, 2, 4096, 2048]⟩ (Layout.meshBlock [2, 2] ![[0], [1], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1x4096x2048 : Shape := ⟨4, ![1, 1, 4096, 2048]⟩
abbrev S4096x2048 : Shape := ⟨2, ![4096, 2048]⟩
abbrev S2x512x2048 : Shape := ⟨3, ![2, 512, 2048]⟩
abbrev S3072x2048 : Shape := ⟨2, ![3072, 2048]⟩
abbrev S2 : Shape := ⟨1, ![2]⟩
abbrev S12 : Shape := ⟨1, ![12]⟩
abbrev S1 : Shape := ⟨1, ![1]⟩
abbrev S_ : Shape := ⟨0, ![]⟩
abbrev S1x512x2048 : Shape := ⟨3, ![1, 512, 2048]⟩
abbrev S512x2048 : Shape := ⟨2, ![512, 2048]⟩

abbrev nBuf : Space → Nat
  | .hbm => 3
  | .vmem => 4
  | .smem => 0
  | _ => 0

abbrev bufTy : (tb : Table) → Fin (tcTables nBuf tb) → BufTy
  | .hbm, ⟨0, _⟩ => ⟨S1x1x4096x2048, .f32⟩
  | .hbm, ⟨1, _⟩ => ⟨S4096x2048, .f32⟩
  | .hbm, ⟨2, _⟩ => ⟨S4096x2048, .bf16⟩
  | .local _ .vmem, ⟨0, _⟩ => ⟨S4096x2048, .bf16⟩
  | .local _ .vmem, ⟨1, _⟩ => ⟨S4096x2048, .bf16⟩
  | .local _ .vmem, ⟨2, _⟩ => ⟨S2x512x2048, .f32⟩
  | .local _ .vmem, ⟨3, _⟩ => ⟨S3072x2048, .bf16⟩
  | _, _ => ⟨S1x1x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c1_i32_10 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v21 : BitVec 32 := Scalar.subi c1_i32_10 v2
  let c1024_i32_11 : BitVec 32 := 1024#32
  let v22 : BitVec 32 := Scalar.muli v21 c1024_i32_11
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_12 v5
  let c512_i32_13 : BitVec 32 := 512#32
  let v24 : BitVec 32 := Scalar.muli v23 c512_i32_13
  let v25 : BitVec 32 := Scalar.addi v22 v24
  let c0_i32_29 : BitVec 32 := 0#32
  ![v25.toNat, 0]
def k0_off2 (d0 : Dev nD) : Fin 2 → Nat :=
  let c2048_i32_16 : BitVec 32 := 2048#32
  let c1_i32_14 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v26 : BitVec 32 := Scalar.subi c1_i32_14 v5
  let c1024_i32_15 : BitVec 32 := 1024#32
  let v27 : BitVec 32 := Scalar.muli v26 c1024_i32_15
  let v28 : BitVec 32 := Scalar.addi c2048_i32_16 v27
  let c1_i32_17 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v29 : BitVec 32 := Scalar.subi c1_i32_17 v2
  let c512_i32_18 : BitVec 32 := 512#32
  let v30 : BitVec 32 := Scalar.muli v29 c512_i32_18
  let v31 : BitVec 32 := Scalar.addi v28 v30
  let c0_i32_34 : BitVec 32 := 0#32
  ![v31.toNat, 0]
def k0_dev1 (d0 : Dev nD) : Nat :=
  let c0_i32_37 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_36 : BitVec 32 := 2#32
  let v52 : BitVec 32 := Scalar.muli v6 c2_i32_36
  let v53 : BitVec 32 := Scalar.addi c0_i32_37 v52
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_38 : BitVec 32 := 1#32
  let v54 : BitVec 32 := Scalar.muli v5 c1_i32_38
  let v55 : BitVec 32 := Scalar.addi v53 v54
  v55.toNat
def k0_dev2 (d0 : Dev nD) : Nat :=
  let c0_i32_41 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_40 : BitVec 32 := 2#32
  let v56 : BitVec 32 := Scalar.muli v2 c2_i32_40
  let v57 : BitVec 32 := Scalar.addi c0_i32_41 v56
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_42 : BitVec 32 := 1#32
  let v58 : BitVec 32 := Scalar.muli v7 c1_i32_42
  let v59 : BitVec 32 := Scalar.addi v57 v58
  v59.toNat
def k0_off3 (d0 : Dev nD) : Fin 2 → Nat :=
  let c1_i32_10 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v21 : BitVec 32 := Scalar.subi c1_i32_10 v2
  let c1024_i32_11 : BitVec 32 := 1024#32
  let v22 : BitVec 32 := Scalar.muli v21 c1024_i32_11
  let c1_i32_12 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v23 : BitVec 32 := Scalar.subi c1_i32_12 v5
  let c512_i32_13 : BitVec 32 := 512#32
  let v24 : BitVec 32 := Scalar.muli v23 c512_i32_13
  let v25 : BitVec 32 := Scalar.addi v22 v24
  let v76 : Index := Scalar.indexCast v25
  let c0_59 : Index := 0#32
  ![v76.toNat, 0]
def k0_off4 (d0 : Dev nD) : Fin 2 → Nat :=
  let c1_i32_44 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v60 : BitVec 32 := Scalar.subi c1_i32_44 v5
  let c512_i32_45 : BitVec 32 := 512#32
  let v61 : BitVec 32 := Scalar.muli v60 c512_i32_45
  let c0_i32_65 : BitVec 32 := 0#32
  ![v61.toNat, 0]
def k0_dev3 (d0 : Dev nD) : Nat :=
  let c0_i32_63 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_62 : BitVec 32 := 2#32
  let v80 : BitVec 32 := Scalar.muli v6 c2_i32_62
  let v81 : BitVec 32 := Scalar.addi c0_i32_63 v80
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_64 : BitVec 32 := 1#32
  let v82 : BitVec 32 := Scalar.muli v5 c1_i32_64
  let v83 : BitVec 32 := Scalar.addi v81 v82
  v83.toNat
def k0_off5 (d0 : Dev nD) : Fin 2 → Nat :=
  let c1_i32_19 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.subi c1_i32_19 v2
  let c1024_i32_20 : BitVec 32 := 1024#32
  let v33 : BitVec 32 := Scalar.muli v32 c1024_i32_20
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_21 : BitVec 32 := 512#32
  let v34 : BitVec 32 := Scalar.muli v5 c512_i32_21
  let v35 : BitVec 32 := Scalar.addi v33 v34
  let c0_i32_71 : BitVec 32 := 0#32
  ![v35.toNat, 0]
def k0_off6 (d0 : Dev nD) : Fin 2 → Nat :=
  let c2048_i32_16 : BitVec 32 := 2048#32
  let c1_i32_14 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v26 : BitVec 32 := Scalar.subi c1_i32_14 v5
  let c1024_i32_15 : BitVec 32 := 1024#32
  let v27 : BitVec 32 := Scalar.muli v26 c1024_i32_15
  let v28 : BitVec 32 := Scalar.addi c2048_i32_16 v27
  let c1_i32_17 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v29 : BitVec 32 := Scalar.subi c1_i32_17 v2
  let c512_i32_18 : BitVec 32 := 512#32
  let v30 : BitVec 32 := Scalar.muli v29 c512_i32_18
  let v31 : BitVec 32 := Scalar.addi v28 v30
  let v103 : Index := Scalar.indexCast v31
  let c0_79 : Index := 0#32
  ![v103.toNat, 0]
def k0_off7 (d0 : Dev nD) : Fin 2 → Nat :=
  let c1024_i32_48 : BitVec 32 := 1024#32
  let c1_i32_46 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v62 : BitVec 32 := Scalar.subi c1_i32_46 v2
  let c512_i32_47 : BitVec 32 := 512#32
  let v63 : BitVec 32 := Scalar.muli v62 c512_i32_47
  let v64 : BitVec 32 := Scalar.addi c1024_i32_48 v63
  let c0_i32_85 : BitVec 32 := 0#32
  ![v64.toNat, 0]
def k0_dev4 (d0 : Dev nD) : Nat :=
  let c0_i32_83 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_82 : BitVec 32 := 2#32
  let v107 : BitVec 32 := Scalar.muli v2 c2_i32_82
  let v108 : BitVec 32 := Scalar.addi c0_i32_83 v107
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_84 : BitVec 32 := 1#32
  let v109 : BitVec 32 := Scalar.muli v7 c1_i32_84
  let v110 : BitVec 32 := Scalar.addi v108 v109
  v110.toNat
def k0_off8 (d0 : Dev nD) : Fin 2 → Nat :=
  let c2048_i32_24 : BitVec 32 := 2048#32
  let c1_i32_22 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v36 : BitVec 32 := Scalar.subi c1_i32_22 v5
  let c1024_i32_23 : BitVec 32 := 1024#32
  let v37 : BitVec 32 := Scalar.muli v36 c1024_i32_23
  let v38 : BitVec 32 := Scalar.addi c2048_i32_24 v37
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_25 : BitVec 32 := 512#32
  let v39 : BitVec 32 := Scalar.muli v2 c512_i32_25
  let v40 : BitVec 32 := Scalar.addi v38 v39
  let c0_i32_91 : BitVec 32 := 0#32
  ![v40.toNat, 0]
def k0_off9 (d0 : Dev nD) : Fin 2 → Nat :=
  let c1_i32_19 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v32 : BitVec 32 := Scalar.subi c1_i32_19 v2
  let c1024_i32_20 : BitVec 32 := 1024#32
  let v33 : BitVec 32 := Scalar.muli v32 c1024_i32_20
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_21 : BitVec 32 := 512#32
  let v34 : BitVec 32 := Scalar.muli v5 c512_i32_21
  let v35 : BitVec 32 := Scalar.addi v33 v34
  let v130 : Index := Scalar.indexCast v35
  let c0_100 : Index := 0#32
  ![v130.toNat, 0]
def k0_off10 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_49 : BitVec 32 := 512#32
  let v65 : BitVec 32 := Scalar.muli v5 c512_i32_49
  let c0_i32_106 : BitVec 32 := 0#32
  ![v65.toNat, 0]
def k0_dev5 (d0 : Dev nD) : Nat :=
  let c0_i32_104 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_103 : BitVec 32 := 2#32
  let v134 : BitVec 32 := Scalar.muli v6 c2_i32_103
  let v135 : BitVec 32 := Scalar.addi c0_i32_104 v134
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_105 : BitVec 32 := 1#32
  let v136 : BitVec 32 := Scalar.muli v5 c1_i32_105
  let v137 : BitVec 32 := Scalar.addi v135 v136
  v137.toNat
def k0_off11 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.subi c1_i32_4 v5
  let c512_i32_5 : BitVec 32 := 512#32
  let v12 : BitVec 32 := Scalar.muli v11 c512_i32_5
  let v13 : BitVec 32 := Scalar.addi v8 v12
  let c0_i32_112 : BitVec 32 := 0#32
  ![v13.toNat, 0]
def k0_off12 (d0 : Dev nD) : Fin 2 → Nat :=
  let c2048_i32_24 : BitVec 32 := 2048#32
  let c1_i32_22 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v36 : BitVec 32 := Scalar.subi c1_i32_22 v5
  let c1024_i32_23 : BitVec 32 := 1024#32
  let v37 : BitVec 32 := Scalar.muli v36 c1024_i32_23
  let v38 : BitVec 32 := Scalar.addi c2048_i32_24 v37
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_25 : BitVec 32 := 512#32
  let v39 : BitVec 32 := Scalar.muli v2 c512_i32_25
  let v40 : BitVec 32 := Scalar.addi v38 v39
  let v157 : Index := Scalar.indexCast v40
  let c0_121 : Index := 0#32
  ![v157.toNat, 0]
def k0_off13 (d0 : Dev nD) : Fin 2 → Nat :=
  let c1024_i32_51 : BitVec 32 := 1024#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_50 : BitVec 32 := 512#32
  let v66 : BitVec 32 := Scalar.muli v2 c512_i32_50
  let v67 : BitVec 32 := Scalar.addi c1024_i32_51 v66
  let c0_i32_126 : BitVec 32 := 0#32
  ![v67.toNat, 0]
def k0_dev6 (d0 : Dev nD) : Nat :=
  let c0_i32_124 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_123 : BitVec 32 := 2#32
  let v161 : BitVec 32 := Scalar.muli v2 c2_i32_123
  let v162 : BitVec 32 := Scalar.addi c0_i32_124 v161
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_125 : BitVec 32 := 1#32
  let v163 : BitVec 32 := Scalar.muli v7 c1_i32_125
  let v164 : BitVec 32 := Scalar.addi v162 v163
  v164.toNat
def k0_off14 (d0 : Dev nD) : Fin 2 → Nat :=
  let c2048_i32 : BitVec 32 := 2048#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_6 : BitVec 32 := 1024#32
  let v14 : BitVec 32 := Scalar.muli v5 c1024_i32_6
  let v15 : BitVec 32 := Scalar.addi c2048_i32 v14
  let c1_i32_8 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_8 v2
  let c512_i32_9 : BitVec 32 := 512#32
  let v19 : BitVec 32 := Scalar.muli v18 c512_i32_9
  let v20 : BitVec 32 := Scalar.addi v15 v19
  let c0_i32_132 : BitVec 32 := 0#32
  ![v20.toNat, 0]
def k0_off15 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let c1_i32_4 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v11 : BitVec 32 := Scalar.subi c1_i32_4 v5
  let c512_i32_5 : BitVec 32 := 512#32
  let v12 : BitVec 32 := Scalar.muli v11 c512_i32_5
  let v13 : BitVec 32 := Scalar.addi v8 v12
  let v184 : Index := Scalar.indexCast v13
  let c0_141 : Index := 0#32
  ![v184.toNat, 0]
def k0_off16 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v9 : BitVec 32 := Scalar.muli v5 c512_i32
  let v10 : BitVec 32 := Scalar.addi v8 v9
  let c0_i32_146 : BitVec 32 := 0#32
  ![v10.toNat, 0]
def k0_off17 (d0 : Dev nD) : Fin 2 → Nat :=
  let c2048_i32 : BitVec 32 := 2048#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_6 : BitVec 32 := 1024#32
  let v14 : BitVec 32 := Scalar.muli v5 c1024_i32_6
  let v15 : BitVec 32 := Scalar.addi c2048_i32 v14
  let c1_i32_8 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v18 : BitVec 32 := Scalar.subi c1_i32_8 v2
  let c512_i32_9 : BitVec 32 := 512#32
  let v19 : BitVec 32 := Scalar.muli v18 c512_i32_9
  let v20 : BitVec 32 := Scalar.addi v15 v19
  let v201 : Index := Scalar.indexCast v20
  let c0_155 : Index := 0#32
  ![v201.toNat, 0]
def k0_off18 (d0 : Dev nD) : Fin 2 → Nat :=
  let c2048_i32 : BitVec 32 := 2048#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_6 : BitVec 32 := 1024#32
  let v14 : BitVec 32 := Scalar.muli v5 c1024_i32_6
  let v15 : BitVec 32 := Scalar.addi c2048_i32 v14
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v16 : BitVec 32 := Scalar.muli v2 c512_i32_7
  let v17 : BitVec 32 := Scalar.addi v15 v16
  let c0_i32_160 : BitVec 32 := 0#32
  ![v17.toNat, 0]
def k0_off19 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1024_i32 : BitVec 32 := 1024#32
  let v8 : BitVec 32 := Scalar.muli v2 c1024_i32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v9 : BitVec 32 := Scalar.muli v5 c512_i32
  let v10 : BitVec 32 := Scalar.addi v8 v9
  let v218 : Index := Scalar.indexCast v10
  let c0_169 : Index := 0#32
  ![v218.toNat, 0]
def k0_off20 (d0 : Dev nD) : Fin 2 → Nat :=
  let c2048_i32 : BitVec 32 := 2048#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_6 : BitVec 32 := 1024#32
  let v14 : BitVec 32 := Scalar.muli v5 c1024_i32_6
  let v15 : BitVec 32 := Scalar.addi c2048_i32 v14
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_7 : BitVec 32 := 512#32
  let v16 : BitVec 32 := Scalar.muli v2 c512_i32_7
  let v17 : BitVec 32 := Scalar.addi v15 v16
  let v230 : Index := Scalar.indexCast v17
  let c0_178 : Index := 0#32
  ![v230.toNat, 0]
def k0_off21 (d0 : Dev nD) : Fin 2 → Nat :=
  let c1_i32_187 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v244 : BitVec 32 := Scalar.subi c1_i32_187 v5
  let c512_i32_188 : BitVec 32 := 512#32
  let v245 : BitVec 32 := Scalar.muli v244 c512_i32_188
  let v246 : Index := Scalar.indexCast v245
  let c0_189 : Index := 0#32
  ![v246.toNat, 0]
def k0_dev7 (d0 : Dev nD) : Nat :=
  let c0_i32_193 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_192 : BitVec 32 := 2#32
  let v251 : BitVec 32 := Scalar.muli v2 c2_i32_192
  let v252 : BitVec 32 := Scalar.addi c0_i32_193 v251
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_194 : BitVec 32 := 1#32
  let v253 : BitVec 32 := Scalar.muli v7 c1_i32_194
  let v254 : BitVec 32 := Scalar.addi v252 v253
  v254.toNat
def k0_off22 (d0 : Dev nD) : Fin 2 → Nat :=
  let c1024_i32_208 : BitVec 32 := 1024#32
  let c1_i32_206 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v271 : BitVec 32 := Scalar.subi c1_i32_206 v2
  let c512_i32_207 : BitVec 32 := 512#32
  let v272 : BitVec 32 := Scalar.muli v271 c512_i32_207
  let v273 : BitVec 32 := Scalar.addi c1024_i32_208 v272
  let v274 : Index := Scalar.indexCast v273
  let c0_209 : Index := 0#32
  ![v274.toNat, 0]
def k0_dev8 (d0 : Dev nD) : Nat :=
  let c0_i32_213 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_212 : BitVec 32 := 2#32
  let v279 : BitVec 32 := Scalar.muli v6 c2_i32_212
  let v280 : BitVec 32 := Scalar.addi c0_i32_213 v279
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_214 : BitVec 32 := 1#32
  let v281 : BitVec 32 := Scalar.muli v5 c1_i32_214
  let v282 : BitVec 32 := Scalar.addi v280 v281
  v282.toNat
def k0_off23 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32_225 : BitVec 32 := 512#32
  let v299 : BitVec 32 := Scalar.muli v5 c512_i32_225
  let v300 : Index := Scalar.indexCast v299
  let c0_226 : Index := 0#32
  ![v300.toNat, 0]
def k0_off24 (d0 : Dev nD) : Fin 2 → Nat :=
  let c1024_i32_237 : BitVec 32 := 1024#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_236 : BitVec 32 := 512#32
  let v315 : BitVec 32 := Scalar.muli v2 c512_i32_236
  let v316 : BitVec 32 := Scalar.addi c1024_i32_237 v315
  let v317 : Index := Scalar.indexCast v316
  let c0_238 : Index := 0#32
  ![v317.toNat, 0]
def k0_dev9 (d0 : Dev nD) : Nat :=
  let c0_i32_253 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_252 : BitVec 32 := 2#32
  let v337 : BitVec 32 := Scalar.muli v2 c2_i32_252
  let v338 : BitVec 32 := Scalar.addi c0_i32_253 v337
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_254 : BitVec 32 := 1#32
  let v339 : BitVec 32 := Scalar.muli v7 c1_i32_254
  let v340 : BitVec 32 := Scalar.addi v338 v339
  v340.toNat
def k0_dev10 (d0 : Dev nD) : Nat :=
  let c0_i32_259 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_258 : BitVec 32 := 2#32
  let v347 : BitVec 32 := Scalar.muli v6 c2_i32_258
  let v348 : BitVec 32 := Scalar.addi c0_i32_259 v347
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_260 : BitVec 32 := 1#32
  let v349 : BitVec 32 := Scalar.muli v5 c1_i32_260
  let v350 : BitVec 32 := Scalar.addi v348 v349
  v350.toNat
def k0_dev11 (d0 : Dev nD) : Nat :=
  let c0_i32_276 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_275 : BitVec 32 := 2#32
  let v372 : BitVec 32 := Scalar.muli v6 c2_i32_275
  let v373 : BitVec 32 := Scalar.addi c0_i32_276 v372
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_277 : BitVec 32 := 1#32
  let v374 : BitVec 32 := Scalar.muli v5 c1_i32_277
  let v375 : BitVec 32 := Scalar.addi v373 v374
  v375.toNat
def k0_dev12 (d0 : Dev nD) : Nat :=
  let c0_i32_282 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_281 : BitVec 32 := 2#32
  let v382 : BitVec 32 := Scalar.muli v2 c2_i32_281
  let v383 : BitVec 32 := Scalar.addi c0_i32_282 v382
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_283 : BitVec 32 := 1#32
  let v384 : BitVec 32 := Scalar.muli v7 c1_i32_283
  let v385 : BitVec 32 := Scalar.addi v383 v384
  v385.toNat
def k0_dev13 (d0 : Dev nD) : Nat :=
  let c0_i32_295 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_294 : BitVec 32 := 2#32
  let v400 : BitVec 32 := Scalar.muli v6 c2_i32_294
  let v401 : BitVec 32 := Scalar.addi c0_i32_295 v400
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_296 : BitVec 32 := 1#32
  let v402 : BitVec 32 := Scalar.muli v5 c1_i32_296
  let v403 : BitVec 32 := Scalar.addi v401 v402
  v403.toNat
def k0_dev14 (d0 : Dev nD) : Nat :=
  let c0_i32_308 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_307 : BitVec 32 := 2#32
  let v418 : BitVec 32 := Scalar.muli v2 c2_i32_307
  let v419 : BitVec 32 := Scalar.addi c0_i32_308 v418
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_309 : BitVec 32 := 1#32
  let v420 : BitVec 32 := Scalar.muli v7 c1_i32_309
  let v421 : BitVec 32 := Scalar.addi v419 v420
  v421.toNat
abbrev stage0_0 : Fin 1 → Memref sig .tc .vmem S4096x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2x4096x2048 : Shape := ⟨4, ![2, 2, 4096, 2048]⟩
abbrev S_ : Shape := ⟨0, ![]⟩
abbrev S4096x2048 : Shape := ⟨2, ![4096, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2x2x4096x2048, .f32⟩
  | .hbm, ⟨1, _⟩ => ⟨S_, .f32⟩
  | .hbm, ⟨2, _⟩ => ⟨S4096x2048, .f32⟩
  | .hbm, ⟨3, _⟩ => ⟨S4096x2048, .bf16⟩
  | _, _ => ⟨S2x2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.KI.Blocks.lean ====
module

public import proofs.«01_k».proof.Proof.Gen.KernelIdeal.Skeleton
public import proofs.«01_k».proof.Proof.Gen.KernelIdeal.Launch
public import proofs.«01_k».proof.Proof.Gen.KernelIdeal.Frame
public import Idealize.ShloMosaic.Lib.Rounds
public import Idealize.ShloMosaic.Lib.Memref
public import Idealize.ShloMosaic.Lib.Tactic

@[expose] public section

noncomputable section

namespace Cert.KernelIdeal.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-! ## The mesh: device `2 x + y` sits at `(x, y)` -/

/-- The neighbour along the first mesh axis. -/
def xn (d : Dev nD) : Dev nD := (![2, 3, 0, 1] : Fin 4 → Fin 4) d
/-- The neighbour along the second mesh axis. -/
def yn (d : Dev nD) : Dev nD := (![1, 0, 3, 2] : Fin 4 → Fin 4) d
/-- The device that half `h` of the array is first exchanged with (`false`: the upper half, `true`: the lower half). -/
def n1 (h : Bool) (d : Dev nD) : Dev nD := if h then yn d else xn d
/-- The device that half `h` is exchanged with second. -/
def n2 (h : Bool) (d : Dev nD) : Dev nD := n1 (!h) d
/-- The block of 512 rows of half `h` that device `d` finishes. -/
def blk (h : Bool) (d : Dev nD) : Fin 8 := if h then (![4, 6, 5, 7] : Fin 4 → Fin 8) d else (![0, 1, 2, 3] : Fin 4 → Fin 8) d
/-- The device whose block of half `h` is device `d`'s `j`-th in the order the kernel walks them. -/
def ow (h : Bool) (j : Fin 4) (d : Dev nD) : Dev nD :=
  (![n1 h (n2 h d), n1 h d, n2 h d, d] : Fin 4 → Dev nD) j
/-- Device `d`'s `j`-th block of half `h`. -/
abbrev bk (h : Bool) (j : Fin 4) (d : Dev nD) : Fin 8 := blk h (ow h j d)
/-- The receive slot of transfer `i` (`0`, `1`: first exchange, `2`: second exchange) of half `h` between device `d` and its partner. -/
def sl (h : Bool) (i : Fin 3) (d : Dev nD) : Fin 6 :=
  if h then (![![3, 2, 5], ![3, 2, 5], ![2, 3, 5], ![2, 3, 5]] : Fin 4 → Fin 3 → Fin 6) d i
  else (![![1, 0, 4], ![0, 1, 4], ![1, 0, 4], ![0, 1, 4]] : Fin 4 → Fin 3 → Fin 6) d i

/-- The first exchange partner's first partner is the device itself. -/
theorem n1_n1 (h : Bool) (d : Dev nD) : n1 h (n1 h d) = d := by revert h d; decide
/-- The second exchange partner's second partner is the device itself. -/
theorem n2_n2 (h : Bool) (d : Dev nD) : n2 h (n2 h d) = d := by revert h d; decide
/-- How the order in which a device walks the blocks relates to its partners' orders. -/
theorem ow_n1 : ∀ (h : Bool) (d : Dev nD), ow h 0 (n1 h d) = ow h 2 d ∧ ow h 1 (n1 h d) = ow h 3 d ∧ ow h 2 (n1 h d) = ow h 0 d
    ∧ ow h 3 (n1 h d) = ow h 1 d ∧ ow h 3 (n2 h d) = ow h 2 d := by decide
/-- Two devices that exchange blocks use the same receive slots for them. -/
theorem sl_n1 : ∀ (h : Bool) (d : Dev nD), sl h 0 (n1 h d) = sl h 0 d ∧ sl h 1 (n1 h d) = sl h 1 d ∧ sl h 2 (n2 h d) = sl h 2 d := by decide

/-! ## The blocks of 512 rows -/

/-- The device's array, whole. -/
abbrev xM : Memref sig .tc .hbm S4096x2048 .f32 := Memref.whole main_v1
/-- The narrowed array, whole. -/
abbrev xbM : Memref sig .tc .vmem S4096x2048 .bf16 := Memref.whole cc0_scratch0
/-- The two stage slots, whole. -/
abbrev stM : Memref sig .tc .vmem S2x512x2048 .f32 := Memref.whole cc0_scratch1
/-- The receive buffer, whole. -/
abbrev rvM : Memref sig .tc .vmem S3072x2048 .bf16 := Memref.whole cc0_scratch2
/-- The result's buffer, whole. -/
abbrev outM : Memref sig .tc .vmem S4096x2048 .bf16 := Memref.whole cc0_stg0_0

/-- The first row and column of block `k`. -/
abbrev off (n : ℕ) (k : Fin n) : Fin 2 → ℕ := ![512 * k.val, 0]

/-- Block `k` lies within a 4096-row array. -/
theorem inb8 (k : Fin 8) : ∀ a, (off 8 k) a + S512x2048.size a ≤ S4096x2048.size a := by revert k; decide
/-- Slot `k` lies within the receive buffer. -/
theorem inb6 (k : Fin 6) : ∀ a, (off 6 k) a + S512x2048.size a ≤ S3072x2048.size a := by revert k; decide

/-- Block `k` of a 4096-row array. -/
abbrev r8 (k : Fin 8) : Rect S4096x2048 := Rect.unit (s := S4096x2048) (off 8 k) S512x2048.size (inb8 k)
/-- Slot `k` of the receive buffer. -/
abbrev r6 (k : Fin 6) : Rect S3072x2048 := Rect.unit (s := S3072x2048) (off 6 k) S512x2048.size (inb6 k)

/-- The first index of a stage slot. -/
abbrev soff (h : Bool) : Fin 3 → ℕ := ![if h then 1 else 0, 0, 0]
/-- A stage slot lies within the stage buffer. -/
theorem inbS (h : Bool) : ∀ a, (soff h) a + S1x512x2048.size a ≤ S2x512x2048.size a := by revert h; decide
/-- Stage slot `h`. -/
abbrev rS (h : Bool) : Rect S2x512x2048 := Rect.unit (s := S2x512x2048) (soff h) S1x512x2048.size (inbS h)

/-- Block `k` of the device's array. -/
abbrev xB (k : Fin 8) : Memref sig .tc .hbm S512x2048 .f32 := xM.slice (r8 k) (fun _ => rfl)
/-- Block `k` of the narrowed array. -/
abbrev xbB (k : Fin 8) : Memref sig .tc .vmem S512x2048 .bf16 := xbM.slice (r8 k) (fun _ => rfl)
/-- Block `k` of the result. -/
abbrev outB (k : Fin 8) : Memref sig .tc .vmem S512x2048 .bf16 := outM.slice (r8 k) (fun _ => rfl)
/-- Slot `k` of the receive buffer. -/
abbrev rvB (k : Fin 6) : Memref sig .tc .vmem S512x2048 .bf16 := rvM.slice (r6 k) (fun _ => rfl)
/-- Stage slot `h`, as a 512-row array. -/
abbrev stB (h : Bool) : Memref sig .tc .vmem S512x2048 .f32 :=
  (stM.slice (rS h) (fun _ => rfl)).squeeze S512x2048 squeezes_S1x512x2048_S512x2048

/-! ## The blocks and devices of the program -/

/-- The program's offset 1 is that of the device's block 0 of the upper half. -/
theorem off1_eq : ∀ d : Dev nD, k0_off1 d = off 8 (bk false 0 d) := by decide +kernel
/-- The program's offset 2 is that of the device's block 0 of the lower half. -/
theorem off2_eq : ∀ d : Dev nD, k0_off2 d = off 8 (bk true 0 d) := by decide +kernel
/-- The program's offset 3 is that of the device's block 0 of the upper half. -/
theorem off3_eq : ∀ d : Dev nD, k0_off3 d = off 8 (bk false 0 d) := by decide +kernel
/-- The program's offset 4 is that of the device's receive slot 0 of the upper half. -/
theorem off4_eq : ∀ d : Dev nD, k0_off4 d = off 6 (sl false 0 d) := by decide +kernel
/-- The program's offset 5 is that of the device's block 1 of the upper half. -/
theorem off5_eq : ∀ d : Dev nD, k0_off5 d = off 8 (bk false 1 d) := by decide +kernel
/-- The program's offset 6 is that of the device's block 0 of the lower half. -/
theorem off6_eq : ∀ d : Dev nD, k0_off6 d = off 8 (bk true 0 d) := by decide +kernel
/-- The program's offset 7 is that of the device's receive slot 0 of the lower half. -/
theorem off7_eq : ∀ d : Dev nD, k0_off7 d = off 6 (sl true 0 d) := by decide +kernel
/-- The program's offset 8 is that of the device's block 1 of the lower half. -/
theorem off8_eq : ∀ d : Dev nD, k0_off8 d = off 8 (bk true 1 d) := by decide +kernel
/-- The program's offset 9 is that of the device's block 1 of the upper half. -/
theorem off9_eq : ∀ d : Dev nD, k0_off9 d = off 8 (bk false 1 d) := by decide +kernel
/-- The program's offset 10 is that of the device's receive slot 1 of the upper half. -/
theorem off10_eq : ∀ d : Dev nD, k0_off10 d = off 6 (sl false 1 d) := by decide +kernel
/-- The program's offset 11 is that of the device's block 2 of the upper half. -/
theorem off11_eq : ∀ d : Dev nD, k0_off11 d = off 8 (bk false 2 d) := by decide +kernel
/-- The program's offset 12 is that of the device's block 1 of the lower half. -/
theorem off12_eq : ∀ d : Dev nD, k0_off12 d = off 8 (bk true 1 d) := by decide +kernel
/-- The program's offset 13 is that of the device's receive slot 1 of the lower half. -/
theorem off13_eq : ∀ d : Dev nD, k0_off13 d = off 6 (sl true 1 d) := by decide +kernel
/-- The program's offset 14 is that of the device's block 2 of the lower half. -/
theorem off14_eq : ∀ d : Dev nD, k0_off14 d = off 8 (bk true 2 d) := by decide +kernel
/-- The program's offset 15 is that of the device's block 2 of the upper half. -/
theorem off15_eq : ∀ d : Dev nD, k0_off15 d = off 8 (bk false 2 d) := by decide +kernel
/-- The program's offset 16 is that of the device's block 3 of the upper half. -/
theorem off16_eq : ∀ d : Dev nD, k0_off16 d = off 8 (bk false 3 d) := by decide +kernel
/-- The program's offset 17 is that of the device's block 2 of the lower half. -/
theorem off17_eq : ∀ d : Dev nD, k0_off17 d = off 8 (bk true 2 d) := by decide +kernel
/-- The program's offset 18 is that of the device's block 3 of the lower half. -/
theorem off18_eq : ∀ d : Dev nD, k0_off18 d = off 8 (bk true 3 d) := by decide +kernel
/-- The program's offset 19 is that of the device's block 3 of the upper half. -/
theorem off19_eq : ∀ d : Dev nD, k0_off19 d = off 8 (bk false 3 d) := by decide +kernel
/-- The program's offset 20 is that of the device's block 3 of the lower half. -/
theorem off20_eq : ∀ d : Dev nD, k0_off20 d = off 8 (bk true 3 d) := by decide +kernel
/-- The program's offset 21 is that of the device's receive slot 0 of the upper half. -/
theorem off21_eq : ∀ d : Dev nD, k0_off21 d = off 6 (sl false 0 d) := by decide +kernel
/-- The program's offset 22 is that of the device's receive slot 0 of the lower half. -/
theorem off22_eq : ∀ d : Dev nD, k0_off22 d = off 6 (sl true 0 d) := by decide +kernel
/-- The program's offset 23 is that of the device's receive slot 1 of the upper half. -/
theorem off23_eq : ∀ d : Dev nD, k0_off23 d = off 6 (sl false 1 d) := by decide +kernel
/-- The program's offset 24 is that of the device's receive slot 1 of the lower half. -/
theorem off24_eq : ∀ d : Dev nD, k0_off24 d = off 6 (sl true 1 d) := by decide +kernel
/-- The last two receive slots, at fixed rows, are the second exchange's of the two halves. -/
theorem offR_eq : ∀ d : Dev nD, (![2048, 0] : Fin 2 → ℕ) = off 6 (sl false 2 d) ∧ (![2560, 0] : Fin 2 → ℕ) = off 6 (sl true 2 d) := by decide
/-- Every copy to another device goes to the first or the second exchange partner of its half. -/
theorem devs_eq : ∀ d : Dev nD, (k0_dev1 d = (n1 false d).val ∧ k0_dev2 d = (n1 true d).val)
    ∧ (k0_dev3 d = (n1 false d).val ∧ k0_dev4 d = (n1 true d).val ∧ k0_dev5 d = (n1 false d).val ∧ k0_dev6 d = (n1 true d).val)
    ∧ (k0_dev7 d = (n2 false d).val ∧ k0_dev8 d = (n2 true d).val)
    ∧ (k0_dev9 d = (n2 false d).val ∧ k0_dev10 d = (n1 false d).val ∧ k0_dev11 d = (n2 true d).val ∧ k0_dev12 d = (n1 true d).val)
    ∧ (k0_dev13 d = (n1 false d).val ∧ k0_dev14 d = (n1 true d).val) := by decide +kernel

end Cert.KernelIdeal.AllReduce
-- ==== Proof.KI.Schedule.lean ====
module

public import proofs.«01_k».proof.Proof.KI.Blocks

@[expose] public section

noncomputable section

namespace Cert.KernelIdeal.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The protocol's ghost state: the rounds of every cell. -/
abbrev UB : Type := URounds (GSem nD τ sig) Bool
/-- The pipeline's ghost state and the protocol's. -/
abbrev UU : Type := UR sig nD τ × UB

local notation "𝕄" => MT nD τ sig Unit (Elt F) ℕ UU ℕ

/-- The pipeline's part. -/
abbrev EP : Emb (UR sig nD τ) (MT nD τ sig Unit (Elt F) ℕ UU ℕ) := embL
/-- The protocol's part. -/
abbrev ER : Emb UB (MT nD τ sig Unit (Elt F) ℕ UU ℕ) := embR

/-- No loop needs a variant. -/
abbrev 𝒱₀ : Variants := Variants.none

/-! ## The semaphores -/

/-- A kernel's own DMA semaphore: a stage's, a send's, or a receive's, by half and transfer. -/
abbrev DK : Type := Bool ⊕ ((Bool × Fin 6) ⊕ (Bool × Fin 6))

/-- The place of transfer `j` of half `h` in the send and receive arrays. -/
def semNo (h : Bool) (j : Fin 6) : Fin 12 := if h then (![2, 3, 5, 7, 10, 11] : Fin 6 → Fin 12) j else (![0, 1, 4, 6, 8, 9] : Fin 6 → Fin 12) j
/-- The DMA semaphore of each of the kernel's own. -/
def dmaOf : DK → DmaSem sig
  | .inl h => ⟨if h then 2 else 1, by revert h; decide⟩
  | .inr (.inl p) => ⟨3 + (semNo p.1 p.2).val, by obtain ⟨h, j⟩ := p; revert h j; decide⟩
  | .inr (.inr p) => ⟨15 + (semNo p.1 p.2).val, by obtain ⟨h, j⟩ := p; revert h j; decide⟩
/-- Which of the kernel's semaphores a DMA semaphore is. -/
def dkOf (s : DmaSem sig) : Option DK :=
  (![none, some (.inl false), some (.inl true),
     some (.inr (.inl (false, 0))), some (.inr (.inl (false, 1))), some (.inr (.inl (true, 0))), some (.inr (.inl (true, 1))),
     some (.inr (.inl (false, 2))), some (.inr (.inl (true, 2))), some (.inr (.inl (false, 3))), some (.inr (.inl (true, 3))),
     some (.inr (.inl (false, 4))), some (.inr (.inl (false, 5))), some (.inr (.inl (true, 4))), some (.inr (.inl (true, 5))),
     some (.inr (.inr (false, 0))), some (.inr (.inr (false, 1))), some (.inr (.inr (true, 0))), some (.inr (.inr (true, 1))),
     some (.inr (.inr (false, 2))), some (.inr (.inr (true, 2))), some (.inr (.inr (false, 3))), some (.inr (.inr (true, 3))),
     some (.inr (.inr (false, 4))), some (.inr (.inr (false, 5))), some (.inr (.inr (true, 4))), some (.inr (.inr (true, 5)))] : Fin 27 → Option DK) s

/-- Each of the kernel's own semaphores is found again from its place. -/
theorem dkOf_dmaOf : ∀ k : DK, dkOf (dmaOf k) = some k := by decide +kernel
/-- Different semaphores have different places. -/
theorem dmaOf_injective : Function.Injective dmaOf := fun a b h => Option.some_injective _ (by rw [← dkOf_dmaOf a, ← dkOf_dmaOf b, h])

/-- The barrier semaphore. -/
abbrev barS : Sem sig := barrier0
/-- A stage's semaphore. -/
abbrev stgS (h : Bool) : DmaSem sig := dmaOf (.inl h)
/-- A send's semaphore. -/
abbrev sndS (h : Bool) (j : Fin 6) : DmaSem sig := dmaOf (.inr (.inl (h, j)))
/-- A receive's semaphore. -/
abbrev rcvS (h : Bool) (j : Fin 6) : DmaSem sig := dmaOf (.inr (.inr (h, j)))

/-- A device's barrier semaphore. -/
abbrev barCell (c : Dev nD) : GSem nD τ sig := ((c : Thread nD τ), .reg barS)
/-- A device's DMA semaphore. -/
abbrev dmaCell (k : DK) (c : Dev nD) : GSem nD τ sig := ((c : Thread nD τ), .dma (dmaOf k))
/-- A device's stage semaphore. -/
abbrev stgCell (h : Bool) (c : Dev nD) : GSem nD τ sig := dmaCell (.inl h) c
/-- A device's send semaphore. -/
abbrev sndCell (h : Bool) (j : Fin 6) (c : Dev nD) : GSem nD τ sig := dmaCell (.inr (.inl (h, j))) c
/-- A device's receive semaphore. -/
abbrev rcvCell (h : Bool) (j : Fin 6) (c : Dev nD) : GSem nD τ sig := dmaCell (.inr (.inr (h, j))) c

/-- The device transfer `j` of half `h` goes to from device `c`. -/
def tgt (h : Bool) (j : Fin 6) (c : Dev nD) : Dev nD := if j = 2 ∨ j = 3 then n2 h c else n1 h c
/-- A transfer's target sends the same transfer back. -/
theorem tgt_tgt (h : Bool) (j : Fin 6) (c : Dev nD) : tgt h j (tgt h j c) = c := by revert h j c; decide

/-- The credit of a copy of one block into a stage slot, and of one block to another device. -/
def NS : ℕ := (stB false).view.dmaCredit
/-- The credit of a copy of one block to another device. -/
def NB : ℕ := (rvB 0).view.dmaCredit
/-- A copy into a stage slot counts for something. -/
theorem NS_pos : 0 < NS := View.dmaCredit_pos _ h_S512x2048
/-- A copy to another device counts for something. -/
theorem NB_pos : 0 < NB := View.dmaCredit_pos _ h_S512x2048

/-! ## What the blocks hold -/

section Values

variable (X : Dev nD → S4096x2048.Idx → Elt F .f32)

/-- Block `k` of device `c`'s array. -/
def XV (c : Dev nD) (k : Fin 8) : FVec F S512x2048 .f32 := fun j => X c ((r8 k).emb j)
/-- It, in the narrow format. -/
def XB (c : Dev nD) (k : Fin 8) : FVec F S512x2048 .bf16 := truncf .bf16 (XV X c k) bitsLt_bf16_f32
/-- Block `k` summed over device `c` and its first partner. -/
def PS (h : Bool) (c : Dev nD) (k : Fin 8) : FVec F S512x2048 .bf16 := addf (XB X c k) (XB X (n1 h c) k)
/-- The block device `o` finishes, summed over all devices. -/
def TOT (h : Bool) (o : Dev nD) : FVec F S512x2048 .bf16 := addf (PS X h o (blk h o)) (PS X h (n2 h o) (blk h o))

/-- A block of memory at contents not named. -/
def any (c : Dev nD) {sp : Space} {s : Shape} {e : EltTy} (m : Memref sig .tc sp s e) : sProp 𝕄 :=
  iprop(∃ Y, owns (c : Thread nD τ) m fullShare Y)

omit [FloatOps F] in
/-- A block at named contents is one at contents not named. -/
theorem any_intro (c : Dev nD) {sp : Space} {s : Shape} {e : EltTy} (m : Memref sig .tc sp s e) (Y : s.Idx → Elt F e) :
    (owns (c : Thread nD τ) m fullShare Y : sProp 𝕄) ⊢ any c m := by
  unfold any; iintro H; iexists Y; iexact H

/-- A block at contents not named may be a payload. -/
instance any_storable (c : Dev nD) {sp : Space} {s : Shape} {e : EltTy} (m : Memref sig .tc sp s e) :
    BI.Storable (upEmb : UEmb _ 𝕄) (any c m) := by unfold any; infer_instance

/-! ## What each semaphore's unit stands for -/

/-- The round, as one of four. -/
abbrev rd4 (r : ℕ) : Fin 4 := ⟨r % 4, Nat.mod_lt _ (by decide)⟩

/-- Round `r` of stage `h`: block `r` in the slot, and the array's own block back. -/
def stgPay (h : Bool) (r : ℕ) (c : Dev nD) : sProp 𝕄 :=
  iprop(owns (c : Thread nD τ) (stB h) fullShare (XV X c (bk h (rd4 r) c)) ∗ owns (c : Thread nD τ) (xB (bk h (rd4 r) c)) fullShare (XV X c (bk h (rd4 r) c)))
/-- A send's own semaphore: the source block back, or its share; nothing where it goes over with the landing. -/
def sndPay (h : Bool) (j : Fin 6) (c : Dev nD) : sProp 𝕄 :=
  match j with
  | 0 => owns (c : Thread nD τ) (xbB (bk h 0 c)) fullShare (XB X c (bk h 0 c))
  | 1 => owns (c : Thread nD τ) (xbB (bk h 1 c)) fullShare (XB X c (bk h 1 c))
  | 2 => iprop(emp)
  | 3 => owns (c : Thread nD τ) (outB (bk h 3 c)) fullShare.left (TOT X h (ow h 3 c))
  | 4 => owns (c : Thread nD τ) (outB (bk h 3 c)) fullShare.right (TOT X h (ow h 3 c))
  | 5 => owns (c : Thread nD τ) (outB (bk h 2 c)) fullShare (TOT X h (ow h 2 c))
/-- A receive semaphore: the block that arrived. The second exchange's brings the partner's block it came from too, to be
    overwritten with the finished block. -/
def rcvPay (h : Bool) (j : Fin 6) (c : Dev nD) : sProp 𝕄 :=
  match j with
  | 0 => owns (c : Thread nD τ) (rvB (sl h 0 c)) fullShare (XB X (n1 h c) (bk h 2 c))
  | 1 => owns (c : Thread nD τ) (rvB (sl h 1 c)) fullShare (XB X (n1 h c) (bk h 3 c))
  | 2 => iprop(owns (c : Thread nD τ) (rvB (sl h 2 c)) fullShare (PS X h (n2 h c) (bk h 3 c))
            ∗ owns (n2 h c : Thread nD τ) (outB (bk h 3 c)) fullShare (PS X h (n2 h c) (bk h 3 c)))
  | 3 => owns (c : Thread nD τ) (outB (bk h 2 c)) fullShare (TOT X h (ow h 2 c))
  | 4 => owns (c : Thread nD τ) (outB (bk h 1 c)) fullShare (TOT X h (ow h 1 c))
  | 5 => owns (c : Thread nD τ) (outB (bk h 0 c)) fullShare (TOT X h (ow h 0 c))
/-- The barrier unit from device `e`: its receive slots and result blocks that half `h`'s first exchange partner writes,
    and that the receive semaphores those copies count on are in their first round. -/
def barGive (h : Bool) (e : Dev nD) : sProp 𝕄 :=
  iprop(any (F := F) e (rvB (sl h 0 e)) ∗ any (F := F) e (rvB (sl h 1 e)) ∗ any (F := F) e (rvB (sl (!h) 2 e)) ∗ any (F := F) e (outB (bk h 1 e)) ∗ any (F := F) e (outB (bk h 0 e))
    ∗ reached (ER (F := F)) (rcvCell h 0 e) 0 ∗ reached (ER (F := F)) (rcvCell h 1 e) 0 ∗ reached (ER (F := F)) (rcvCell (!h) 2 e) 0 ∗ reached (ER (F := F)) (rcvCell (!h) 3 e) 0
    ∗ reached (ER (F := F)) (rcvCell h 4 e) 0 ∗ reached (ER (F := F)) (rcvCell h 5 e) 0)

/-- A stage's payload may be stored. -/
instance stgPay_storable (h : Bool) (r : ℕ) (c : Dev nD) : BI.Storable (upEmb : UEmb _ 𝕄) (stgPay X h r c) := by unfold stgPay; infer_instance
/-- A send's payload may be stored. -/
instance sndPay_storable (h : Bool) (j : Fin 6) (c : Dev nD) : BI.Storable (upEmb : UEmb _ 𝕄) (sndPay X h j c) := by
  unfold sndPay; split <;> infer_instance
/-- A receive's payload may be stored. -/
instance rcvPay_storable (h : Bool) (j : Fin 6) (c : Dev nD) : BI.Storable (upEmb : UEmb _ 𝕄) (rcvPay X h j c) := by
  unfold rcvPay; split <;> infer_instance
/-- A barrier unit's payload may be stored. -/
instance barGive_storable (h : Bool) (e : Dev nD) : BI.Storable (upEmb : UEmb _ 𝕄) (barGive (F := F) h e) := by unfold barGive; infer_instance

/-- The payload of a DMA semaphore's round. -/
def dmaPay (k : DK) (r : ℕ) (c : Dev nD) : sProp 𝕄 :=
  match k with
  | .inl h => stgPay X h r c
  | .inr (.inl (h, j)) => sndPay X h j c
  | .inr (.inr (h, j)) => rcvPay X h j c
/-- A DMA semaphore's payload may be stored. -/
instance dmaPay_storable (k : DK) (r : ℕ) (c : Dev nD) : BI.Storable (upEmb : UEmb _ 𝕄) (dmaPay X k r c) := by
  unfold dmaPay; split <;> infer_instance

/-- How many rounds a DMA semaphore has, and each round's amount. -/
def rnds : DK → ℕ
  | .inl _ => 4
  | _ => 1
/-- The amount of each round of a DMA semaphore. -/
def amt : DK → ℕ
  | .inl _ => NS
  | _ => NB
/-- It is not zero. -/
theorem amt_pos (k : DK) : 0 < amt k := by
  rcases k with h | p | p
  · exact NS_pos
  · exact NB_pos
  · exact NB_pos

/-- The barrier has one round of two units, one from each neighbour; a stage four rounds of one copy; a send and a receive
    semaphore one round of one copy. -/
def arRd : Rounds.Schedule (GSem nD τ sig) Bool 𝕄 where
  duties g r :=
    if g.1.2 = .tc then
      match g.2 with
      | .reg _ => if r = 0 then {false, true} else ∅
      | .dma s => match dkOf s with
        | some k => if r < rnds k then {false} else ∅
        | none => ∅
    else ∅
  unitless _ := False
  amount g _ _ := match g.2 with
    | .reg _ => 1
    | .dma s => match dkOf s with
      | some k => amt k
      | none => 1
  payload g r d := match g.2 with
    | .reg _ => barGive d (n1 d g.1.1)
    | .dma s => match dkOf s with
      | some k => dmaPay X k r g.1.1
      | none => iprop(emp)
  amount_pos g _ _ _ := by
    rcases g with ⟨t, s | s⟩
    · exact Nat.one_pos
    · dsimp only
      cases dkOf s with
      | none => exact Nat.one_pos
      | some k => exact amt_pos k

/-- Every payload of the schedule may be stored. -/
instance arRd_payload_storable (g : GSem nD τ sig) (r : ℕ) (d : Bool) :
    BI.Storable (upEmb : UEmb _ 𝕄) ((arRd X).payload g r d) := by
  rcases g with ⟨t, s | s⟩
  · show BI.Storable upEmb (barGive (F := F) d (n1 d t.1)); infer_instance
  · show BI.Storable upEmb (match dkOf s with | some k => dmaPay X k r t.1 | none => iprop(emp))
    split <;> infer_instance

variable (c : Dev nD)

/-- The barrier's one round has two duties. -/
theorem duties_bar : (arRd X).duties (barCell c) 0 = {false, true} := rfl
/-- It has no later round. -/
theorem duties_bar_later : ∀ r, 1 ≤ r → (arRd X).duties (barCell c) r = ∅ := fun r hr => by
  show (if r = 0 then ({false, true} : Finset Bool) else ∅) = ∅
  rw [if_neg (by omega)]
/-- A DMA semaphore's round has one duty while rounds last. -/
theorem duties_dma (k : DK) (r : ℕ) : (arRd X).duties (dmaCell k c) r = if r < rnds k then {false} else ∅ := by
  show (match dkOf (dmaOf k) with | some k => if r < rnds k then ({false} : Finset Bool) else ∅ | none => ∅) = _
  rw [dkOf_dmaOf]
/-- Each round that a DMA semaphore has has that duty. -/
theorem duty_dma (k : DK) (r : ℕ) (hr : r < rnds k) : false ∈ (arRd X).duties (dmaCell k c) r := by
  rw [duties_dma, if_pos hr]; exact Finset.mem_singleton_self _
/-- After its last round it has none. -/
theorem duties_dma_later (k : DK) : ∀ r, rnds k ≤ r → (arRd X).duties (dmaCell k c) r = ∅ := fun r hr => by
  rw [duties_dma, if_neg (by omega)]
/-- The amount of a DMA semaphore's duty. -/
theorem amount_dma (k : DK) (r : ℕ) (d : Bool) : (arRd X).amount (dmaCell k c) r d = amt k := by
  show (match dkOf (dmaOf k) with | some k => amt k | none => 1) = _
  rw [dkOf_dmaOf]
/-- The payload of a DMA semaphore's duty. -/
theorem payload_dma (k : DK) (r : ℕ) (d : Bool) : (arRd X).payload (dmaCell k c) r d = dmaPay X k r c := by
  show (match dkOf (dmaOf k) with | some k => dmaPay X k r c | none => iprop(emp)) = _
  rw [dkOf_dmaOf]
/-- The payload of a barrier's duty. -/
theorem payload_bar (d : Bool) : (arRd X).payload (barCell c) 0 d = barGive d (n1 d c) := rfl
/-- A DMA semaphore's round is complete at its one copy's amount. -/
theorem expect_dma (k : DK) (r : ℕ) (hr : r < rnds k) : (arRd X).expect (dmaCell k c) r = amt k := by
  unfold Schedule.expect Schedule.amountOf; rw [duties_dma, if_pos hr, Finset.sum_singleton, amount_dma]
/-- The barrier's round is complete at two units. -/
theorem expect_bar : (arRd X).expect (barCell c) 0 = 2 := by
  unfold Schedule.expect Schedule.amountOf; rw [duties_bar]; rfl
/-- What a wait on a DMA semaphore hands over. -/
theorem rest_dma (k : DK) (r : ℕ) (hr : r < rnds k) :
    bigSep ((arRd X).duties (dmaCell k c) r \ ∅) (fun d => (arRd X).payload (dmaCell k c) r d) = dmaPay X k r c := by
  rw [Finset.sdiff_empty, duties_dma, if_pos hr, bigSep_singleton, payload_dma]
/-- What the wait on the barrier hands over: both neighbours' pieces. -/
theorem rest_bar : bigSep ((arRd X).duties (barCell c) 0 \ ∅) (fun d => (arRd X).payload (barCell c) 0 d)
    = iprop(barGive (F := F) false (n1 false c) ∗ barGive true (n1 true c)) := by
  rw [Finset.sdiff_empty, duties_bar, bigSep_insert (by decide), bigSep_singleton, payload_bar, payload_bar]; rfl

end Values

/-! ## What a device owes, and the levels -/

/-- Transfers not yet sent, each owed to its target's receive semaphore; the first of the list is the next to go. -/
def debt (c : Dev nD) : List (Bool × Fin 6) → CellTallies nD τ sig Unit
  | [] => 0
  | p :: l => debt c l + tallyAt (rcvCell p.1 p.2 (tgt p.1 p.2 c)) () NB

/-- The transfers in the order the kernel sends them. -/
abbrev sends : List (Bool × Fin 6) :=
  [(false, 0), (true, 0), (false, 1), (true, 1), (false, 2), (true, 2), (false, 3), (false, 4), (true, 3), (true, 4), (false, 5), (true, 5)]

/-- What a device owes after its first signal. -/
def O₁ (c : Dev nD) : CellTallies nD τ sig Unit := debt c sends + tallyAt (barCell (n1 true c)) () 1
/-- What a device owes at the start. -/
def O₀ (c : Dev nD) : CellTallies nD τ sig Unit := O₁ c + tallyAt (barCell (n1 false c)) () 1

/-- Every semaphore of a TensorCore has a level. -/
def L (g : GSem nD τ sig) : Finset Unit := if g.1.2 = .tc then {()} else ∅
/-- The level of a DMA semaphore. -/
def lvK : DK → ℕ
  | .inr (.inr (_, j)) => (![2, 2, 3, 4, 5, 5] : Fin 6 → ℕ) j
  | _ => 0
/-- The level of a semaphore: the barrier's is above the stages' and sends', below the receives'. -/
def lv (g : GSem nD τ sig) (_ : Unit) : ℕ := match g.2 with
  | .reg _ => 1
  | .dma s => match dkOf s with
    | some k => lvK k
    | none => 0

/-- No other thread's semaphore has a level. -/
theorem L_of_ne (g : GSem nD τ sig) (h : g.1.2 ≠ .tc) : L g = ∅ := if_neg h
/-- A TensorCore's semaphore has one. -/
theorem L_tc (c : Dev nD) (sm : SemLoc sig) : L ((c : Thread nD τ), sm) = {()} := if_pos rfl
/-- The level of a DMA semaphore's cell. -/
theorem lv_dma (k : DK) (c : Dev nD) : lv (dmaCell k c) () = lvK k := by
  show (match dkOf (dmaOf k) with | some k => lvK k | none => 0) = _
  rw [dkOf_dmaOf]

/-- What is owed is owed to the receive semaphores of the list. -/
theorem debt_pos (c : Dev nD) (g : GSem nD τ sig) : ∀ l : List (Bool × Fin 6), 0 < debt c l g () → ∃ p ∈ l, g = rcvCell p.1 p.2 (tgt p.1 p.2 c)
  | [], h => absurd h (Nat.lt_irrefl 0)
  | p :: l, h => by
    by_cases hg : g = rcvCell p.1 p.2 (tgt p.1 p.2 c)
    · exact ⟨p, List.mem_cons_self, hg⟩
    · have h' : 0 < debt c l g () + tallyAt (rcvCell p.1 p.2 (tgt p.1 p.2 c)) () NB g () := h
      rw [tallyAt_apply, if_neg (fun e => hg e.1), Nat.add_zero] at h'
      obtain ⟨q, hq, e⟩ := debt_pos c g l h'
      exact ⟨q, List.mem_cons_of_mem _ hq, e⟩

/-- A wait is allowed when every transfer still owed sits at a higher level. -/
theorem mayWait (c : Dev nD) (sm : SemLoc sig) (l : List (Bool × Fin 6))
    (hl : ∀ p ∈ l, lv ((c : Thread nD τ), sm) () < lvK (.inr (.inr p))) :
    (levAts L lv : sProp 𝕄) ⊢ MayWait (c : Thread nD τ) sm () (debt c l) :=
  MayOwe.of_cut (L := L) (lev := lv) (lv ((c : Thread nD τ), sm) ())
    (fun p hp => by rw [Finset.mem_singleton.mp hp, L_tc]; exact Finset.mem_singleton_self _)
    (fun g u hg => by obtain ⟨p, -, rfl⟩ := debt_pos c g l hg; rw [L_tc]; exact Finset.mem_singleton_self _)
    (fun p hp => by rw [Finset.mem_singleton.mp hp])
    (fun g u hg => by obtain ⟨p, hp, rfl⟩ := debt_pos c g l hg; rw [lv_dma]; exact hl p hp)

end Cert.KernelIdeal.AllReduce
-- ==== Proof.KI.Steps.lean ====
module

public import proofs.«01_k».proof.Proof.KI.Schedule

@[expose] public section

noncomputable section

namespace Cert.KernelIdeal.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Loads and stores of a block owned at named contents -/

section Mem

variable (c : Dev nD) {α : Type}

/-- A load of a rectangle reads what its slice is owned at. -/
theorem load_owns {Q : α → sProp 𝕄} {cs : CoreSpace} {s : Shape} {e : EltTy} {m : Memref sig .tc cs s e} {r : Rect s} (hr : ∀ a, r.stride a = 1) {hl : m.view.LoadsAt r}
    {q : PosShare TreeShare} {V : r.shape.Idx → Elt F e} {k : (r.shape.Idx → Elt F e) → Prog (TpuEff nD τ sig (Elt F) Λ₀ .tc) α} :
    (owns (c : Thread nD τ) (m.slice r hr) q V : sProp 𝕄)
      ⊢ iprop((owns (c : Thread nD τ) (m.slice r hr) q V -∗ wp frame (wpE (defs₀ (F := F)) 𝒱₀ c none) Set.univ (k V) Q)
        -∗ wp frame (wpE (defs₀ (F := F)) 𝒱₀ c none) Set.univ (.op (.load m r hl) k) Q) := by
  unfold owns
  iintro ⟨%f, %hf, H⟩ Hk
  iapply (wp_load_rect (defs := defs₀ (F := F)) 𝒱₀ (c : Thread nD τ) none Set.univ (m := m) (r := r) (hl := hl) (k := k) (q := q) (f := f) (S := (m.slice r hr).view.set)
    subset_rfl) $$ [H]
  · iexact H
  iintro H
  have e : (m.access r).read (Elt F) f = V := hf
  rw [e]
  iapply Hk
  iexists f
  isplitr
  · ipureintro; exact hf
  iexact H

/-- A store of a rectangle leaves its slice owned at what was stored. -/
theorem store_owns {Q : α → sProp 𝕄} {cs : CoreSpace} {s : Shape} {e : EltTy} {m : Memref sig .tc cs s e} {r : Rect s} (hr : ∀ a, r.stride a = 1) {w : r.shape.Idx → Elt F e}
    {hx : (m.access r).Stores Finset.univ} {hm : Finset.univ = Finset.univ ∨ ∀ a, r.stride a = 1}
    {k : PUnit → Prog (TpuEff nD τ sig (Elt F) Λ₀ .tc) α} :
    (any c (m.slice r hr) : sProp 𝕄)
      ⊢ iprop((owns (c : Thread nD τ) (m.slice r hr) fullShare w -∗ wp frame (wpE (defs₀ (F := F)) 𝒱₀ c none) Set.univ (k ⟨⟩) Q)
        -∗ wp frame (wpE (defs₀ (F := F)) 𝒱₀ c none) Set.univ (.op (.store m r w Finset.univ hx hm) k) Q) := by
  unfold any owns
  iintro ⟨%Y, %f, %hf, H⟩ Hk
  iapply (wp_store (defs := defs₀ (F := F)) 𝒱₀ (c : Thread nD τ) none Set.univ (m := m) (r := r) (w := w) (Mk := Finset.univ) (hx := hx) (hm := hm) (k := k) (f := f)
    (S := (m.slice r hr).view.set) subset_rfl) $$ [H]
  · iexact H
  iintro H
  iapply Hk
  iexists ((m.access r).write (Elt F) f w Finset.univ)
  isplitr
  · ipureintro; exact View.read_write_univ (v := m.access r) f w
  iexact H

/-- The stage slot read as a `1 × 512 × 2048` rectangle is the slot read as a block, recast. -/
theorem load_stage {Q : α → sProp 𝕄} (h : Bool) {hl : stM.view.LoadsAt (rS h)} {V : S512x2048.Idx → Elt F .f32}
    {k : ((rS h).shape.Idx → Elt F .f32) → Prog (TpuEff nD τ sig (Elt F) Λ₀ .tc) α} :
    (owns (c : Thread nD τ) (stB h) fullShare V : sProp 𝕄)
      ⊢ iprop((∀ v : (rS h).shape.Idx → Elt F .f32, ⌜shapeCast S512x2048 v shapeCasts_S1x512x2048_S512x2048 = V⌝
          -∗ owns (c : Thread nD τ) (stB h) fullShare V -∗ wp frame (wpE (defs₀ (F := F)) 𝒱₀ c none) Set.univ (k v) Q)
        -∗ wp frame (wpE (defs₀ (F := F)) 𝒱₀ c none) Set.univ (.op (.load stM (rS h) hl) k) Q) := by
  unfold owns
  iintro ⟨%f, %hf, H⟩ Hk
  have hset : (stB h).view.set = (stM.access (rS h)).set := View.set_reshape _ _
  iapply (wp_load_rect (defs := defs₀ (F := F)) 𝒱₀ (c : Thread nD τ) none Set.univ (m := stM) (r := rS h) (hl := hl) (k := k) (q := fullShare) (f := f) (S := (stB h).view.set)
    (by rw [hset])) $$ [H]
  · iexact H
  iintro H
  iapply Hk $$ %((stM.access (rS h)).read (Elt F) f) %hf
  iexists f
  isplitr
  · ipureintro; exact hf
  iexact H

end Mem

end Cert.KernelIdeal.AllReduce
-- ==== Proof.KI.Comm.lean ====
module

public import proofs.«01_k».proof.Proof.KI.Steps

@[expose] public section

noncomputable section

namespace Cert.KernelIdeal.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → S4096x2048.Idx → Elt F .f32) (K : GSem nD τ sig → ℕ)

/-! ## The invariants, known to every device -/

/-- The invariant of every cell. -/
def recs : sProp 𝕄 :=
  iprop(bigSep Finset.univ (fun c : Dev nD => cellInv ER (arRd X) (K (barCell c)) (barCell c))
    ∗ bigSep Finset.univ (fun p : DK × Dev nD => cellInv ER (arRd X) (K (dmaCell p.1 p.2)) (dmaCell p.1 p.2)))

/-- The invariants may be used any number of times. -/
instance recs_persistent : BI.Persistent (recs X K) := by unfold recs; infer_instance

/-- Among them is each device's barrier semaphore's. -/
theorem recs_bar (c : Dev nD) : recs X K ⊢ (cellInv ER (arRd X) (K (barCell c)) (barCell c) : sProp 𝕄) := by
  unfold recs
  iintro ⟨H, -⟩
  iapply (show bigSep Finset.univ (fun c : Dev nD => cellInv ER (arRd X) (K (barCell c)) (barCell c)) ⊢ (cellInv ER (arRd X) (K (barCell c)) (barCell c) : sProp 𝕄)
    from bigSep_elim (Finset.mem_univ c)) $$ H
/-- Among them is each DMA semaphore's. -/
theorem recs_dma (k : DK) (c : Dev nD) : recs X K ⊢ (cellInv ER (arRd X) (K (dmaCell k c)) (dmaCell k c) : sProp 𝕄) := by
  unfold recs
  iintro ⟨-, H⟩
  iapply (show bigSep Finset.univ (fun p : DK × Dev nD => cellInv ER (arRd X) (K (dmaCell p.1 p.2)) (dmaCell p.1 p.2))
      ⊢ (cellInv ER (arRd X) (K (dmaCell k c)) (dmaCell k c) : sProp 𝕄)
    from bigSep_elim (Finset.mem_univ (k, c))) $$ H

/-! ## What a device holds of its transfers -/

/-- The device still owes the transfers of the list. -/
def owing (c : Dev nD) (l : List (Bool × Fin 6)) : sProp 𝕄 := iprop(∃ W, owes (c : Thread nD τ) (debt c l) W)
/-- What sending transfer `j` of half `h` takes. -/
def canSend (h : Bool) (j : Fin 6) (c : Dev nD) : sProp 𝕄 :=
  iprop(atPos ER (sndCell h j c) 0 ∅ 0 ∗ dutyTok ER (sndCell h j c) 0 false ∗ dutyTok ER (rcvCell h j (tgt h j c)) 0 false ∗ reached ER (sndCell h j c) 0 ∗ reached ER (rcvCell h j (tgt h j c)) 0)
/-- What waiting on DMA semaphore `k`, round `r`, takes. -/
def canWait (k : DK) (r : ℕ) (c : Dev nD) : sProp 𝕄 :=
  iprop(atPos ER (dmaCell k c) r ∅ 0 ∗ cred (tallyAt (dmaCell k c) () (amt k)))

variable (c : Dev nD) {α : Type}

/-- A copy of a result block counts for one block. -/
theorem credit_out (k : Fin 8) : (outB k).view.dmaCredit = NB := rfl
/-- A copy into a receive slot counts for one block. -/
theorem credit_rv (k : Fin 6) : (rvB k).view.dmaCredit = NB := rfl
/-- A copy of a narrowed block counts for one block. -/
theorem credit_xb (k : Fin 8) : (xbB k).view.dmaCredit = NB := rfl
/-- A copy into a stage slot counts for one wide block. -/
theorem credit_st (h : Bool) : (stB h).view.dmaCredit = NS := rfl

/-- A wait for a round of a DMA semaphore: its payload, and the next round. -/
theorem wait_round {Q : α → sProp 𝕄} (k : DK) (r : ℕ) (hr : r < rnds k) (l : List (Bool × Fin 6)) (hl : ∀ p ∈ l, lvK k < lvK (.inr (.inr p)))
    {s : DmaSem sig} (hs : s = dmaOf k) {sp sp' : Space} {s₁ s₂ : Shape} {e₁ e₂ : EltTy} {src : Memref sig .tc sp' s₁ e₁} {dst : Memref sig .tc sp s₂ e₂}
    {w₁ : src.view.WordExact} {w₂ : dst.view.WordExact} (hn : dst.view.dmaCredit = amt k) {kk : PUnit → Prog (TpuEff nD τ sig (Elt F) Λ₀ .tc) α} :
    iprop(recs X K ∗ levAts L lv ∗ canWait k r c ∗ owing c l)
      ⊢ iprop(((owing c l ∗ atPos ER (dmaCell k c) (r + 1) ∅ 0 ∗ reached ER (dmaCell k c) (r + 1) ∗ dmaPay X k r c)
            -∗ wp frame (wpE (defs₀ (F := F)) 𝒱₀ c none) Set.univ (kk ⟨⟩) Q)
        -∗ wp frame (wpE (defs₀ (F := F)) 𝒱₀ c none) Set.univ (.op (.waitDma2 s src dst w₁ w₂) kk) Q) := by
  subst hs
  unfold canWait owing
  iintro ⟨#HR, #Hlev, ⟨Hat, Hc⟩, ⟨%W, HO⟩⟩ Hk
  rw [← hn]
  iapply (Rounds.wp_wait_rest_token 𝒱₀ ER (arRd X) (c : Thread nD τ) none (κ := K (dmaCell k c))
      (wpE_waitDma2_eq 𝒱₀ (c : Thread nD τ) none Set.univ) (Set.mem_univ _) () (O := debt c l) (W := W) (R := r) (m := 0) (T := ∅)
      ((Nat.zero_add _).trans (hn.trans (expect_dma X c k r hr).symm))) $$ [Hc HO Hat]
  · isplitr; · iapply (recs_dma X K k c); iexact HR
    isplitl [Hc]; · iexact Hc
    isplitl [HO]; · iexact HO
    isplitr; · iapply (mayWait c (.dma (dmaOf k)) l (fun p hp => by rw [show lv ((c : Thread nD τ), .dma (dmaOf k)) () = lvK k from lv_dma k c]; exact hl p hp)); iexact Hlev
    iexact Hat
  iintro ⟨HO, Hat, Hr, Hpay⟩
  iapply Hk
  isplitl [HO]; · iexists _; iexact HO
  isplitl [Hat]; · iexact Hat
  isplitl [Hr]; · iexact Hr
  iapply (Entails.of_eq (rest_dma X c k r hr)) $$ Hpay

/-- A wait for the last round: the semaphore's counter is back at zero. -/
theorem wait_last {Q : α → sProp 𝕄} (k : DK) (r : ℕ) (hr : r + 1 = rnds k) (l : List (Bool × Fin 6)) (hl : ∀ p ∈ l, lvK k < lvK (.inr (.inr p)))
    {s : DmaSem sig} (hs : s = dmaOf k) {sp sp' : Space} {s₁ s₂ : Shape} {e₁ e₂ : EltTy} {src : Memref sig .tc sp' s₁ e₁} {dst : Memref sig .tc sp s₂ e₂}
    {w₁ : src.view.WordExact} {w₂ : dst.view.WordExact} (hn : dst.view.dmaCredit = amt k) {kk : PUnit → Prog (TpuEff nD τ sig (Elt F) Λ₀ .tc) α} :
    iprop(recs X K ∗ levAts L lv ∗ canWait k r c ∗ owing c l)
      ⊢ iprop(((owing c l ∗ semVal (dmaCell k c) 0 ∗ dmaPay X k r c)
            -∗ wp frame (wpE (defs₀ (F := F)) 𝒱₀ c none) Set.univ (kk ⟨⟩) Q)
        -∗ wp frame (wpE (defs₀ (F := F)) 𝒱₀ c none) Set.univ (.op (.waitDma2 s src dst w₁ w₂) kk) Q) := by
  iintro ⟨#HR, #Hlev, Hw, HO⟩ Hk
  iapply (wait_round X K c k r (by omega) l hl hs hn) $$ [Hw HO]
  · isplitr; · iexact HR
    isplitr; · iexact Hlev
    isplitl [Hw] <;> iassumption
  iintro ⟨HO, Hat, -, Hpay⟩
  iapply (fupd_wp frame (wpE (defs₀ (F := F)) 𝒱₀ c none) Set.univ _ _)
  imod (Rounds.cell_close ER (arRd X) (Set.mem_univ (K (dmaCell k c))) id (R := r + 1) (duties_dma_later X c k · <| hr ▸ ·)) $$ [Hat] with Hz
  · isplitr; · iapply (recs_dma X K k c); iexact HR
    iexact Hat
  imodintro
  iapply Hk
  isplitl [HO]; · iexact HO
  isplitl [Hz] <;> iassumption

/-- A copy of one block of the array into a stage slot. -/
theorem start_copy {Q : α → sProp 𝕄} (h : Bool) (j : Fin 4) {s : DmaSem sig} (hs : s = stgS h) {of : Fin 2 → ℕ} {ib : ∀ a, of a + S512x2048.size a ≤ S4096x2048.size a} (hof : of = off 8 (bk h j c))
    {sf : Fin 3 → ℕ} {sb : ∀ a, sf a + S1x512x2048.size a ≤ S2x512x2048.size a} (hsf : sf = soff h)
    {w₁ : (xM.slice (Rect.unit (s := S4096x2048) of S512x2048.size ib) (fun _ => rfl)).view.WordExact}
    {w₂ : ((stM.slice (Rect.unit (s := S2x512x2048) sf S1x512x2048.size sb) (fun _ => rfl)).squeeze S512x2048 squeezes_S1x512x2048_S512x2048).view.WordExact}
    {w₃ : _}
    {kk : PUnit → Prog (TpuEff nD τ sig (Elt F) Λ₀ .tc) α} :
    iprop(recs X K ∗ owns (c : Thread nD τ) (xB (bk h j c)) fullShare (XV X c (bk h j c)) ∗ any c (stB h) ∗ dutyTok ER (stgCell h c) j.val false ∗ reached ER (stgCell h c) j.val
        ∗ atPos ER (stgCell h c) j.val ∅ 0)
      ⊢ iprop((canWait (.inl h) j.val c -∗ wp frame (wpE (defs₀ (F := F)) 𝒱₀ c none) Set.univ (kk ⟨⟩) Q)
        -∗ wp frame (wpE (defs₀ (F := F)) 𝒱₀ c none) Set.univ (.op (.enqueueDma (xM.slice (Rect.unit (s := S4096x2048) of S512x2048.size ib) (fun _ => rfl))
            (.here ((stM.slice (Rect.unit (s := S2x512x2048) sf S1x512x2048.size sb) (fun _ => rfl)).squeeze S512x2048 squeezes_S1x512x2048_S512x2048)) (.dma s) w₁ w₂ w₃) kk) Q) := by
  subst hs hof hsf
  unfold any owns canWait
  iintro ⟨#HR, ⟨%f, %hf, Hx⟩, ⟨%Y, %g, %hg, Hs⟩, Ht, Hr, Hat⟩ Hk
  have hj : rd4 j.val = j := Fin.ext (Nat.mod_eq_of_lt j.isLt)
  iapply (Rounds.wp_copy_pointsTo 𝒱₀ ER (arRd X) (c : Thread nD τ) none (src := xB (bk h j c)) (dst := stB h) (sem := .dma (stgS h)) (q := fullShare)
      (fs := f) (fd := g) (r := j.val) (d := false) (κ := K (stgCell h c))
      (duty_dma X c (.inl h) j.val j.isLt) () NS (credit_st h) (amount_dma X c (.inl h) j.val false)
      (by
        rw [payload_dma X c (.inl h) j.val false]
        show _ ⊢ stgPay X h j.val c
        unfold stgPay owns
        rw [hj]
        iintro ⟨Hd, Hx⟩
        isplitl [Hd]
        · iexists _
          isplitr
          · ipureintro; exact (View.read_write_univ (v := (stB h).view) g _).trans hf
          iexact Hd
        iexists f
        isplitr
        · ipureintro; exact hf
        iexact Hx)) $$ [Hx Hs Ht Hr]
  · isplitr; · iapply (recs_dma X K (.inl h) c); iexact HR
    isplitl [Hx]; · iexact Hx
    isplitl [Hs]; · iexact Hs
    isplitl [Ht]; · iexact Ht
    iexact Hr
  iintro Hc
  iapply Hk
  isplitl [Hat]; · iexact Hat
  iexact Hc

end Cert.KernelIdeal.AllReduce
-- ==== Proof.KI.Phases.lean ====
module

public import proofs.«01_k».proof.Proof.KI.Comm

@[expose] public section

noncomputable section

namespace Cert.KernelIdeal.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → S4096x2048.Idx → Elt F .f32) (K : GSem nD τ sig → ℕ) (c : Dev nD) {α : Type}

/-- A cut of 512 rows at block `k`'s first row is block `k`. -/
theorem slice8_eq {sp : Space} {e : EltTy} (m : Memref sig .tc sp S4096x2048 e) {of : Fin 2 → ℕ} {ib : ∀ a, of a + S512x2048.size a ≤ S4096x2048.size a} {k : Fin 8}
    (h : of = off 8 k) : m.slice (Rect.unit (s := S4096x2048) of S512x2048.size ib) (fun _ => rfl) = m.slice (r8 k) (fun _ => rfl) := by subst h; rfl
/-- A cut of 512 rows at slot `k`'s first row is slot `k`. -/
theorem slice6_eq {sp : Space} {e : EltTy} (m : Memref sig .tc sp S3072x2048 e) {of : Fin 2 → ℕ} {ib : ∀ a, of a + S512x2048.size a ≤ S3072x2048.size a} {k : Fin 6}
    (h : of = off 6 k) : m.slice (Rect.unit (s := S3072x2048) of S512x2048.size ib) (fun _ => rfl) = m.slice (r6 k) (fun _ => rfl) := by subst h; rfl

/-! ## The barrier -/

/-- The signal to a neighbour: it is handed the blocks it will write here. -/
theorem signal {Q : α → sProp 𝕄} (h : Bool) (O : CellTallies nD τ sig Unit) (W : Waits sig Unit) {dv : Dev nD} (hdv : dv = n1 h c) {n : ℕ} (hn : n = 1)
    {kk : PUnit → Prog (TpuEff nD τ sig (Elt F) Λ₀ .tc) α} :
    iprop(recs X K ∗ owes (c : Thread nD τ) (O + tallyAt (barCell (n1 h c)) () 1) W ∗ dutyTok ER (barCell (n1 h c)) 0 h ∗ reached ER (barCell (n1 h c)) 0 ∗ barGive (F := F) h c)
      ⊢ iprop((owes (c : Thread nD τ) O W -∗ wp frame (wpE (defs₀ (F := F)) 𝒱₀ c none) Set.univ (kk ⟨⟩) Q)
        -∗ wp frame (wpE (defs₀ (F := F)) 𝒱₀ c none) Set.univ (.op (.semSignal (dv, .tc) barS n) kk) Q) := by
  subst hdv hn
  iintro ⟨#HR, HO, Ht, #Hr, Hg⟩ Hk
  iapply (Rounds.wp_signal 𝒱₀ ER (arRd X) (c : Thread nD τ) none (dst := (n1 h c : Thread nD τ)) (sem := barS) (r := 0) (d := h) (κ := K (barCell (n1 h c)))
      (by rw [duties_bar]; cases h <;> decide) rfl () O rfl) $$ [HO Ht Hg]
  · isplitr; · iapply (recs_bar X K (n1 h c)); iexact HR
    isplitl [HO]; · iexact HO
    isplitl [Ht]; · iexact Ht
    isplitl [Hg]
    · rw [payload_bar, n1_n1]; iexact Hg
    iexact Hr
  iexact Hk

/-- The wait for both neighbours: what each hands over; the barrier's counter is back at zero. -/
theorem wait_bar {Q : α → sProp 𝕄} (W : Waits sig Unit) {n : ℕ} (hn : n = 2) {kk : PUnit → Prog (TpuEff nD τ sig (Elt F) Λ₀ .tc) α} :
    iprop(recs X K ∗ levAts L lv ∗ cred (tallyAt (barCell c) () 2) ∗ owes (c : Thread nD τ) (debt c sends) W ∗ atPos ER (barCell c) 0 ∅ 0)
      ⊢ iprop(((owing c sends ∗ semVal (barCell c) 0 ∗ barGive (F := F) false (n1 false c) ∗ barGive (F := F) true (n1 true c))
            -∗ wp frame (wpE (defs₀ (F := F)) 𝒱₀ c none) Set.univ (kk ⟨⟩) Q)
        -∗ wp frame (wpE (defs₀ (F := F)) 𝒱₀ c none) Set.univ (.op (.semWait barS n) kk) Q) := by
  subst hn
  iintro ⟨#HR, #Hlev, Hc, HO, Hat⟩ Hk
  iapply (Rounds.wp_wait_rest_token 𝒱₀ ER (arRd X) (c : Thread nD τ) none (κ := K (barCell c))
      (wpE_semWait_eq 𝒱₀ (c : Thread nD τ) none Set.univ) (Set.mem_univ _) () (O := debt c sends) (W := W) (R := 0) (m := 0) (T := ∅)
      ((Nat.zero_add 2).trans (expect_bar X c).symm)) $$ [Hc HO Hat]
  · isplitr; · iapply (recs_bar X K c); iexact HR
    isplitl [Hc]; · iexact Hc
    isplitl [HO]; · iexact HO
    isplitr; · iapply (mayWait c (.reg barS) sends (show ∀ p ∈ sends, 1 < lvK (.inr (.inr p)) by decide)); iexact Hlev
    iexact Hat
  iintro ⟨HO, Hat, -, Hpay⟩
  iapply (fupd_wp frame (wpE (defs₀ (F := F)) 𝒱₀ c none) Set.univ _ _)
  imod (Rounds.cell_close ER (arRd X) (Set.mem_univ (K (barCell c))) id (R := 0 + 1) (duties_bar_later X c)) $$ [Hat] with Hz
  · isplitr; · iapply (recs_bar X K c); iexact HR
    iexact Hat
  imodintro
  iapply Hk
  unfold owing
  isplitl [HO]; · iexists _; iexact HO
  isplitl [Hz]; · iexact Hz
  iapply (Entails.of_eq (rest_bar X c)) $$ Hpay

/-! ## Sends -/

/-- A send of an owned block into a block owned on the target. -/
theorem send {Q : α → sProp 𝕄} (h : Bool) (j : Fin 6) (l : List (Bool × Fin 6)) {src dst : Memref sig .tc .vmem S512x2048 .bf16} {src' dst' : Memref sig .tc .vmem S512x2048 .bf16}
    (hsrc : src = src') (hdst : dst = dst') (hN : dst.view.dmaCredit = NB) {q : PosShare TreeShare} {V : FVec F S512x2048 .bf16}
    (hp₁ : (owns (c : Thread nD τ) src' q V : sProp 𝕄) ⊢ sndPay X h j c) (hp₂ : (owns (tgt h j c : Thread nD τ) dst' fullShare V : sProp 𝕄) ⊢ rcvPay X h j (tgt h j c))
    {dv : Dev nD} (hdv : dv = tgt h j c) {s₁ s₂ : DmaSem sig} (hs₁ : s₁ = sndS h j) (hs₂ : s₂ = rcvS h j) {hsc : dst.view.ref.isScScratch = false}
    {w₁ : src.view.WordExact} {w₂ : dst.view.WordExact} {w₃ : _} {kk : PUnit → Prog (TpuEff nD τ sig (Elt F) Λ₀ .tc) α} :
    iprop(recs X K ∗ canSend h j c ∗ owing c ((h, j) :: l) ∗ owns (c : Thread nD τ) src' q V ∗ any (tgt h j c) dst')
      ⊢ iprop(((canWait (.inr (.inl (h, j))) 0 c ∗ owing c l) -∗ wp frame (wpE (defs₀ (F := F)) 𝒱₀ c none) Set.univ (kk ⟨⟩) Q)
        -∗ wp frame (wpE (defs₀ (F := F)) 𝒱₀ c none) Set.univ (.op (.enqueueDma src (.remote (Dev.tc dv) dst (.dma s₁) hsc) (.dma s₂) w₁ w₂ w₃) kk) Q) := by
  subst hsrc hdst hdv hs₁ hs₂
  unfold canSend owing any canWait
  iintro ⟨#HR, ⟨Hat, Ht₁, Ht₂, Hr₁, Hr₂⟩, ⟨%W, HO⟩, Hs, ⟨%Y, Hd⟩⟩ Hk
  ihave Hs' := (show (owns (c : Thread nD τ) src q V : sProp 𝕄) ⊢ iprop(∃ f, ⌜src.view.read (Elt F) f = V⌝ ∗ (src.view.loc (c : Thread nD τ) ↦[src.view.set]{q} f)) from .rfl) $$ Hs
  icases Hs' with ⟨%f, %hf, Hs⟩
  ihave Hd' := (show (owns (tgt h j c : Thread nD τ) dst fullShare Y : sProp 𝕄)
    ⊢ iprop(∃ f, ⌜dst.view.read (Elt F) f = Y⌝ ∗ (dst.view.loc (tgt h j c : Thread nD τ) ↦[dst.view.set]{fullShare} f)) from .rfl) $$ Hd
  icases Hd' with ⟨%g, %hg, Hd⟩
  iapply (Rounds.wp_send_pointsTo 𝒱₀ ER (arRd X) (c : Thread nD τ) none (c' := (tgt h j c : Thread nD τ)) (src := src) (dst := dst)
      (sS := .dma (sndS h j)) (sem := .dma (rcvS h j)) (q := q) (fs := f) (κ₁ := K (sndCell h j c)) (κ₂ := K (rcvCell h j (tgt h j c)))
      (r₁ := 0) (r₂ := 0) (d₁ := false) (d₂ := false) (fd := g)
      (duty_dma X c (.inr (.inl (h, j))) 0 Nat.one_pos) (duty_dma X (tgt h j c) (.inr (.inr (h, j))) 0 Nat.one_pos)
      () () NB hN (amount_dma X c (.inr (.inl (h, j))) 0 false) (amount_dma X (tgt h j c) (.inr (.inr (h, j))) 0 false) (debt c l) rfl (W := W)
      (by
        rw [payload_dma X c (.inr (.inl (h, j))) 0 false]
        refine BIBase.Entails.trans ?_ hp₁
        unfold owns
        iintro H; iexists f; isplitr
        · ipureintro; exact hf
        iexact H)
      (by
        rw [payload_dma X (tgt h j c) (.inr (.inr (h, j))) 0 false]
        refine BIBase.Entails.trans ?_ hp₂
        unfold owns
        iintro H; iexists _; isplitr
        · ipureintro; exact (View.read_write_univ (v := dst.view) g _).trans hf
        iexact H)) $$ [Hs Hd HO Ht₁ Ht₂ Hr₁ Hr₂]
  · isplitr; · iapply (recs_dma X K (.inr (.inl (h, j))) c); iexact HR
    isplitr; · iapply (recs_dma X K (.inr (.inr (h, j))) (tgt h j c)); iexact HR
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [Hat Hc]
  · isplitl [Hat]; · iexact Hat
    iexact Hc
  iexists W; iexact HO

/-- A send whose source block goes over to the target with the landing. -/
theorem send_over {Q : α → sProp 𝕄} (h : Bool) (j : Fin 6) (l : List (Bool × Fin 6)) {src dst : Memref sig .tc .vmem S512x2048 .bf16} {src' dst' : Memref sig .tc .vmem S512x2048 .bf16}
    (hsrc : src = src') (hdst : dst = dst') (hN : dst.view.dmaCredit = NB) {V : FVec F S512x2048 .bf16}
    (hp₁ : (emp : sProp 𝕄) ⊢ sndPay X h j c)
    (hp₂ : (iprop(owns (tgt h j c : Thread nD τ) dst' fullShare V ∗ owns (c : Thread nD τ) src' fullShare V) : sProp 𝕄) ⊢ rcvPay X h j (tgt h j c))
    {dv : Dev nD} (hdv : dv = tgt h j c) {s₁ s₂ : DmaSem sig} (hs₁ : s₁ = sndS h j) (hs₂ : s₂ = rcvS h j) {hsc : dst.view.ref.isScScratch = false}
    {w₁ : src.view.WordExact} {w₂ : dst.view.WordExact} {w₃ : _} {kk : PUnit → Prog (TpuEff nD τ sig (Elt F) Λ₀ .tc) α} :
    iprop(recs X K ∗ canSend h j c ∗ owing c ((h, j) :: l) ∗ owns (c : Thread nD τ) src' fullShare V ∗ any (tgt h j c) dst')
      ⊢ iprop(((canWait (.inr (.inl (h, j))) 0 c ∗ owing c l) -∗ wp frame (wpE (defs₀ (F := F)) 𝒱₀ c none) Set.univ (kk ⟨⟩) Q)
        -∗ wp frame (wpE (defs₀ (F := F)) 𝒱₀ c none) Set.univ (.op (.enqueueDma src (.remote (Dev.tc dv) dst (.dma s₁) hsc) (.dma s₂) w₁ w₂ w₃) kk) Q) := by
  subst hsrc hdst hdv hs₁ hs₂
  unfold canSend owing any canWait
  iintro ⟨#HR, ⟨Hat, Ht₁, Ht₂, Hr₁, Hr₂⟩, ⟨%W, HO⟩, Hs, ⟨%Y, Hd⟩⟩ Hk
  ihave Hs' := (show (owns (c : Thread nD τ) src fullShare V : sProp 𝕄) ⊢ iprop(∃ f, ⌜src.view.read (Elt F) f = V⌝ ∗ (src.view.loc (c : Thread nD τ) ↦[src.view.set]{fullShare} f)) from .rfl) $$ Hs
  icases Hs' with ⟨%f, %hf, Hs⟩
  ihave Hd' := (show (owns (tgt h j c : Thread nD τ) dst fullShare Y : sProp 𝕄)
    ⊢ iprop(∃ f, ⌜dst.view.read (Elt F) f = Y⌝ ∗ (dst.view.loc (tgt h j c : Thread nD τ) ↦[dst.view.set]{fullShare} f)) from .rfl) $$ Hd
  icases Hd' with ⟨%g, %hg, Hd⟩
  iapply (Rounds.wp_send_landing_pointsTo 𝒱₀ ER (arRd X) (c : Thread nD τ) none (c' := (tgt h j c : Thread nD τ)) (src := src) (dst := dst)
      (sS := .dma (sndS h j)) (sem := .dma (rcvS h j)) (q := fullShare) (fs := f) (κ₁ := K (sndCell h j c)) (κ₂ := K (rcvCell h j (tgt h j c)))
      (r₁ := 0) (r₂ := 0) (d₁ := false) (d₂ := false) (fd := g)
      (duty_dma X c (.inr (.inl (h, j))) 0 Nat.one_pos) (duty_dma X (tgt h j c) (.inr (.inr (h, j))) 0 Nat.one_pos)
      () () NB hN (amount_dma X c (.inr (.inl (h, j))) 0 false) (amount_dma X (tgt h j c) (.inr (.inr (h, j))) 0 false) (debt c l) rfl (W := W)
      (by rw [payload_dma X c (.inr (.inl (h, j))) 0 false]; exact hp₁)
      (by
        rw [payload_dma X (tgt h j c) (.inr (.inr (h, j))) 0 false]
        refine BIBase.Entails.trans ?_ hp₂
        unfold owns
        iintro ⟨H, H'⟩
        isplitl [H]
        · iexists _; isplitr
          · ipureintro; exact (View.read_write_univ (v := dst.view) g _).trans hf
          iexact H
        iexists f; isplitr
        · ipureintro; exact hf
        iexact H')) $$ [Hs Hd HO Ht₁ Ht₂ Hr₁ Hr₂]
  · isplitr; · iapply (recs_dma X K (.inr (.inl (h, j))) c); iexact HR
    isplitr; · iapply (recs_dma X K (.inr (.inr (h, j))) (tgt h j c)); iexact HR
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [Hat Hc]
  · isplitl [Hat]; · iexact Hat
    iexact Hc
  iexists W; iexact HO

/-! ## The arithmetic on blocks -/

section Tails

variable {of : Fin 2 → ℕ} {ib : ∀ a, of a + S512x2048.size a ≤ S4096x2048.size a} {og : Fin 2 → ℕ} {ig : ∀ a, og a + S512x2048.size a ≤ S3072x2048.size a}
  {sf : Fin 3 → ℕ} {sb : ∀ a, sf a + S1x512x2048.size a ≤ S2x512x2048.size a}

/-- A block in its stage slot is narrowed into the narrow array; the array's own block and the slot are free again. -/
theorem narrow {Q : α → sProp 𝕄} (h : Bool) (j : Fin 4) (hof : of = off 8 (bk h j c)) (hsf : sf = soff h)
    {pay : (S1x512x2048.Idx → Elt F .f32) → S512x2048.Idx → Elt F .bf16}
    (hpay : ∀ v : FVec F S1x512x2048 .f32, pay v = truncf .bf16 (shapeCast S512x2048 v shapeCasts_S1x512x2048_S512x2048) bitsLt_bf16_f32)
    {hl : _} {hl' : _} {hx : _} {hm : _} {kk : PUnit → Prog (TpuEff nD τ sig (Elt F) Λ₀ .tc) α} :
    iprop(stgPay X h j.val c ∗ any c (xbB (bk h j c)))
      ⊢ iprop(((any c (stB h) ∗ owns (c : Thread nD τ) (xB (bk h j c)) fullShare (XV X c (bk h j c)) ∗ owns (c : Thread nD τ) (xbB (bk h j c)) fullShare (XB X c (bk h j c)))
            -∗ wp frame (wpE (defs₀ (F := F)) 𝒱₀ c none) Set.univ (kk ⟨⟩) Q)
        -∗ wp frame (wpE (defs₀ (F := F)) 𝒱₀ c none) Set.univ
          (.op (.load stM (Rect.unit (s := S2x512x2048) sf S1x512x2048.size sb).toLoadRect hl) fun v =>
            .op (.load xbM (Rect.unit (s := S4096x2048) of S512x2048.size ib).toLoadRect hl') fun _ =>
            .op (.store xbM (Rect.unit (s := S4096x2048) of S512x2048.size ib) (pay v) Finset.univ hx hm) kk) Q) := by
  subst hof hsf
  have hj : rd4 j.val = j := Fin.ext (Nat.mod_eq_of_lt j.isLt)
  unfold stgPay
  rw [hj]
  iintro ⟨⟨Hs, Hx⟩, Hb⟩ Hk
  iapply (load_stage c h) $$ Hs
  iintro %v %hv Hs
  unfold any
  icases Hb with ⟨%Y, Hb⟩
  iapply (load_owns c (m := xbM) (r := r8 (bk h j c)) (fun _ => rfl)) $$ Hb
  iintro Hb
  ihave Hb := (any_intro c (xbB (bk h j c)) Y) $$ Hb
  iapply (store_owns c (m := xbM) (r := r8 (bk h j c)) (fun _ => rfl)) $$ Hb
  iintro Hb
  iapply Hk
  isplitl [Hs]; · iexists _; iexact Hs
  isplitl [Hx]; · iexact Hx
  have e : XB X c (bk h j c) = pay v := by rw [hpay, hv]; rfl
  rw [e]
  iexact Hb

/-- The sum of a block with a received one, into the same block of the result. -/
theorem add_block {Q : α → sProp 𝕄} (k : Fin 8) (s : Fin 6) (hof : of = off 8 k) (hog : og = off 6 s) {A B : FVec F S512x2048 .bf16}
    {pay : (S512x2048.Idx → Elt F .bf16) → (S512x2048.Idx → Elt F .bf16) → S512x2048.Idx → Elt F .bf16}
    (hpay : ∀ a b : FVec F S512x2048 .bf16, pay a b = addf a b)
    {hl : _} {hl' : _} {hl'' : _} {hx : _} {hm : _} {kk : PUnit → Prog (TpuEff nD τ sig (Elt F) Λ₀ .tc) α} :
    iprop(owns (c : Thread nD τ) (xbB k) fullShare A ∗ owns (c : Thread nD τ) (rvB s) fullShare B ∗ any c (outB k))
      ⊢ iprop(((any c (xbB k) ∗ any c (rvB s) ∗ owns (c : Thread nD τ) (outB k) fullShare (addf A B))
            -∗ wp frame (wpE (defs₀ (F := F)) 𝒱₀ c none) Set.univ (kk ⟨⟩) Q)
        -∗ wp frame (wpE (defs₀ (F := F)) 𝒱₀ c none) Set.univ
          (.op (.load xbM (Rect.unit (s := S4096x2048) of S512x2048.size ib).toLoadRect hl) fun a =>
            .op (.load rvM (Rect.unit (s := S3072x2048) og S512x2048.size ig).toLoadRect hl') fun b =>
            .op (.load outM (Rect.unit (s := S4096x2048) of S512x2048.size ib).toLoadRect hl'') fun _ =>
            .op (.store outM (Rect.unit (s := S4096x2048) of S512x2048.size ib) (pay a b) Finset.univ hx hm) kk) Q) := by
  subst hof hog
  iintro ⟨Ha, Hb, Ho⟩ Hk
  iapply (load_owns c (m := xbM) (r := r8 k) (fun _ => rfl)) $$ Ha
  iintro Ha
  iapply (load_owns c (m := rvM) (r := r6 s) (fun _ => rfl)) $$ Hb
  iintro Hb
  unfold any
  icases Ho with ⟨%Y, Ho⟩
  iapply (load_owns c (m := outM) (r := r8 k) (fun _ => rfl)) $$ Ho
  iintro Ho
  ihave Ho := (any_intro c (outB k) Y) $$ Ho
  iapply (store_owns c (m := outM) (r := r8 k) (fun _ => rfl)) $$ Ho
  iintro Ho
  iapply Hk
  isplitl [Ha]; · iexists _; iexact Ha
  isplitl [Hb]; · iexists _; iexact Hb
  have e : addf A B = pay A B := (hpay A B).symm
  rw [e]
  iexact Ho

/-- The sum of a block of the result with a received one, in place. -/
theorem add_in_place {Q : α → sProp 𝕄} (k : Fin 8) (s : Fin 6) (hof : of = off 8 k) (hog : og = off 6 s) {A B : FVec F S512x2048 .bf16}
    {pay : (S512x2048.Idx → Elt F .bf16) → (S512x2048.Idx → Elt F .bf16) → S512x2048.Idx → Elt F .bf16}
    (hpay : ∀ a b : FVec F S512x2048 .bf16, pay a b = addf a b)
    {hl : _} {hl' : _} {hl'' : _} {hx : _} {hm : _} {kk : PUnit → Prog (TpuEff nD τ sig (Elt F) Λ₀ .tc) α} :
    iprop(owns (c : Thread nD τ) (outB k) fullShare A ∗ owns (c : Thread nD τ) (rvB s) fullShare B)
      ⊢ iprop(((any c (rvB s) ∗ owns (c : Thread nD τ) (outB k) fullShare (addf A B))
            -∗ wp frame (wpE (defs₀ (F := F)) 𝒱₀ c none) Set.univ (kk ⟨⟩) Q)
        -∗ wp frame (wpE (defs₀ (F := F)) 𝒱₀ c none) Set.univ
          (.op (.load outM (Rect.unit (s := S4096x2048) of S512x2048.size ib).toLoadRect hl) fun a =>
            .op (.load rvM (Rect.unit (s := S3072x2048) og S512x2048.size ig).toLoadRect hl') fun b =>
            .op (.load outM (Rect.unit (s := S4096x2048) of S512x2048.size ib).toLoadRect hl'') fun _ =>
            .op (.store outM (Rect.unit (s := S4096x2048) of S512x2048.size ib) (pay a b) Finset.univ hx hm) kk) Q) := by
  subst hof hog
  iintro ⟨Ha, Hb⟩ Hk
  iapply (load_owns c (m := outM) (r := r8 k) (fun _ => rfl)) $$ Ha
  iintro Ha
  iapply (load_owns c (m := rvM) (r := r6 s) (fun _ => rfl)) $$ Hb
  iintro Hb
  iapply (load_owns c (m := outM) (r := r8 k) (fun _ => rfl)) $$ Ha
  iintro Ha
  ihave Ho := (any_intro c (outB k) A) $$ Ha
  iapply (store_owns c (m := outM) (r := r8 k) (fun _ => rfl)) $$ Ho
  iintro Ho
  iapply Hk
  unfold any
  isplitl [Hb]; · iexists _; iexact Hb
  have e : addf A B = pay A B := (hpay A B).symm
  rw [e]
  iexact Ho

end Tails

end Cert.KernelIdeal.AllReduce
-- ==== Proof.KI.Moves.lean ====
module

public import proofs.«01_k».proof.Proof.KI.Phases
public import Idealize.ShloMosaic.Lib.StableHlo.CollectiveRules

@[expose] public section

noncomputable section

namespace Cert.KernelIdeal.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → S4096x2048.Idx → Elt F .f32) (K : GSem nD τ sig → ℕ) (c : Dev nD) {α : Type}

/-- A stage slot before its round `r`. -/
def stgIdle (h : Bool) (r : ℕ) (c : Dev nD) : sProp 𝕄 :=
  iprop(any c (stB h) ∗ reached ER (stgCell h c) r ∗ atPos ER (stgCell h c) r ∅ 0)
/-- What sending transfer `j` of half `h` takes, but for the target's word that its semaphore is ready. -/
def toSend (h : Bool) (j : Fin 6) (c : Dev nD) : sProp 𝕄 :=
  iprop(atPos ER (sndCell h j c) 0 ∅ 0 ∗ dutyTok ER (sndCell h j c) 0 false ∗ dutyTok ER (rcvCell h j (tgt h j c)) 0 false ∗ reached ER (sndCell h j c) 0)

omit [FloatOps F] in
/-- Full ownership of a block is its two half shares. -/
theorem owns_halves {sp : Space} {s : Shape} {e : EltTy} (m : Memref sig .tc sp s e) (Y : s.Idx → Elt F e) :
    (owns (c : Thread nD τ) m fullShare Y : sProp 𝕄) ⊣⊢ iprop(owns (c : Thread nD τ) m fullShare.left Y ∗ owns (c : Thread nD τ) m fullShare.right Y) :=
  owns_share (c : Thread nD τ) m (PosShare.mem_left_op_right fullShare) Y

section Rows

variable {of : Fin 2 → ℕ} {ib : ∀ a, of a + S512x2048.size a ≤ S4096x2048.size a} {og : Fin 2 → ℕ} {ig : ∀ a, og a + S512x2048.size a ≤ S3072x2048.size a}
  {sf : Fin 3 → ℕ} {sb : ∀ a, sf a + S1x512x2048.size a ≤ S2x512x2048.size a}

/-- A copy into an idle stage slot. -/
theorem copy_in {Q : α → sProp 𝕄} (h : Bool) (j : Fin 4) {s : DmaSem sig} (hs : s = stgS h) (hof : of = off 8 (bk h j c)) (hsf : sf = soff h)
    {w₁ : (xM.slice (Rect.unit (s := S4096x2048) of S512x2048.size ib) (fun _ => rfl)).view.WordExact}
    {w₂ : ((stM.slice (Rect.unit (s := S2x512x2048) sf S1x512x2048.size sb) (fun _ => rfl)).squeeze S512x2048 squeezes_S1x512x2048_S512x2048).view.WordExact}
    {w₃ : _} {kk : PUnit → Prog (TpuEff nD τ sig (Elt F) Λ₀ .tc) α} :
    iprop(recs X K ∗ stgIdle (F := F) h j.val c ∗ owns (c : Thread nD τ) (xB (bk h j c)) fullShare (XV X c (bk h j c)) ∗ dutyTok ER (stgCell h c) j.val false)
      ⊢ iprop((canWait (.inl h) j.val c -∗ wp frame (wpE (defs₀ (F := F)) 𝒱₀ c none) Set.univ (kk ⟨⟩) Q)
        -∗ wp frame (wpE (defs₀ (F := F)) 𝒱₀ c none) Set.univ (.op (.enqueueDma (xM.slice (Rect.unit (s := S4096x2048) of S512x2048.size ib) (fun _ => rfl))
            (.here ((stM.slice (Rect.unit (s := S2x512x2048) sf S1x512x2048.size sb) (fun _ => rfl)).squeeze S512x2048 squeezes_S1x512x2048_S512x2048)) (.dma s) w₁ w₂ w₃) kk) Q) := by
  unfold stgIdle
  iintro ⟨#HR, ⟨Hs, Hr, Hat⟩, Hx, Ht⟩ Hk
  iapply (start_copy X K c h j hs hof hsf) $$ [Hs Hr Hat Hx Ht]
  · isplitr; · iexact HR
    isplitl [Hx]; · iexact Hx
    isplitl [Hs]; · iexact Hs
    isplitl [Ht]; · iexact Ht
    isplitl [Hr] <;> iassumption
  iexact Hk

/-- A stage's block is waited for and narrowed; the slot is idle again. -/
theorem row {Q : α → sProp 𝕄} (h : Bool) (j : Fin 4) (hj : j.val < 4) (l : List (Bool × Fin 6)) (hl : ∀ p ∈ l, 0 < lvK (.inr (.inr p))) {s : DmaSem sig} (hs : s = stgS h)
    (hof : of = off 8 (bk h j c)) (hsf : sf = soff h)
    {pay : (S1x512x2048.Idx → Elt F .f32) → S512x2048.Idx → Elt F .bf16}
    (hpay : ∀ v : FVec F S1x512x2048 .f32, pay v = truncf .bf16 (shapeCast S512x2048 v shapeCasts_S1x512x2048_S512x2048) bitsLt_bf16_f32)
    {sp sp' : Space} {s₁ s₂ : Shape} {e₁ e₂ : EltTy} {src : Memref sig .tc sp' s₁ e₁} {dst : Memref sig .tc sp s₂ e₂}
    {w₁ : src.view.WordExact} {w₂ : dst.view.WordExact} (hn : dst.view.dmaCredit = NS)
    {hl₁ : _} {hl₂ : _} {hx : _} {hm : _} {kk : PUnit → Prog (TpuEff nD τ sig (Elt F) Λ₀ .tc) α} :
    iprop(recs X K ∗ levAts L lv ∗ canWait (.inl h) j.val c ∗ owing c l ∗ any c (xbB (bk h j c)))
      ⊢ iprop(((owing c l ∗ stgIdle (F := F) h (j.val + 1) c ∗ owns (c : Thread nD τ) (xB (bk h j c)) fullShare (XV X c (bk h j c))
              ∗ owns (c : Thread nD τ) (xbB (bk h j c)) fullShare (XB X c (bk h j c)))
            -∗ wp frame (wpE (defs₀ (F := F)) 𝒱₀ c none) Set.univ (kk ⟨⟩) Q)
        -∗ wp frame (wpE (defs₀ (F := F)) 𝒱₀ c none) Set.univ
          (.op (.waitDma2 s src dst w₁ w₂) fun _ =>
            .op (.load stM (Rect.unit (s := S2x512x2048) sf S1x512x2048.size sb).toLoadRect hl₁) fun v =>
            .op (.load xbM (Rect.unit (s := S4096x2048) of S512x2048.size ib).toLoadRect hl₂) fun _ =>
            .op (.store xbM (Rect.unit (s := S4096x2048) of S512x2048.size ib) (pay v) Finset.univ hx hm) kk) Q) := by
  iintro ⟨#HR, #Hlev, Hw, HO, Hb⟩ Hk
  iapply (wait_round X K c (.inl h) j.val hj l hl hs hn) $$ [Hw HO]
  · isplitr; · iexact HR
    isplitr; · iexact Hlev
    isplitl [Hw] <;> iassumption
  iintro ⟨HO, Hat, Hr, Hpay⟩
  iapply (narrow X c h j hof hsf hpay) $$ [Hpay Hb]
  · isplitl [Hpay]; · iapply (show dmaPay X (.inl h) j.val c ⊢ stgPay X h j.val c from .rfl) $$ Hpay
    iexact Hb
  iintro ⟨Hs, Hx, Hb⟩
  iapply Hk
  isplitl [HO]; · iexact HO
  isplitl [Hs Hat Hr]
  · unfold stgIdle
    isplitl [Hs]; · iexact Hs
    isplitl [Hr] <;> iassumption
  isplitl [Hx] <;> iassumption

/-- A stage's slot after its four rounds: its counter is back at zero. -/
theorem stg_close (h : Bool) {β : Type} (p : Prog (TpuEff nD τ sig (Elt F) Λ₀ .tc) β) (R : β → sProp 𝕄) :
    iprop(recs X K ∗ stgIdle (F := F) h 4 c)
      ⊢ iprop(((any c (stB h) ∗ semVal (stgCell h c) 0) -∗ wp frame (wpE (defs₀ (F := F)) 𝒱₀ c none) Set.univ p R) -∗ wp frame (wpE (defs₀ (F := F)) 𝒱₀ c none) Set.univ p R) := by
  unfold stgIdle
  iintro ⟨#HR, Hs, Hr, Hat⟩ Hk
  iapply (fupd_wp frame (wpE (defs₀ (F := F)) 𝒱₀ c none) Set.univ _ _)
  imod (Rounds.cell_close ER (arRd X) (Set.mem_univ (K (stgCell h c))) id (R := 4) (duties_dma_later X c (.inl h))) $$ [Hat] with Hz
  · isplitr; · iapply (recs_dma X K (.inl h) c); iexact HR
    iexact Hat
  imodintro
  iapply Hk
  isplitl [Hs] <;> iassumption

/-- The first exchange's wait, and the sum into the result's block. -/
theorem recv_add {Q : α → sProp 𝕄} (h : Bool) (j : Fin 6) (k : Fin 8) (s : Fin 6) {B : FVec F S512x2048 .bf16}
    (hp : rcvPay X h j c = owns (c : Thread nD τ) (rvB s) fullShare B) (l : List (Bool × Fin 6)) (hl : ∀ p ∈ l, lvK (.inr (.inr (h, j))) < lvK (.inr (.inr p)))
    {sm : DmaSem sig} (hs : sm = rcvS h j) (hof : of = off 8 k) (hog : og = off 6 s)
    {pay : (S512x2048.Idx → Elt F .bf16) → (S512x2048.Idx → Elt F .bf16) → S512x2048.Idx → Elt F .bf16}
    (hpay : ∀ a b : FVec F S512x2048 .bf16, pay a b = addf a b)
    {sp sp' : Space} {s₁ s₂ : Shape} {e₁ e₂ : EltTy} {src : Memref sig .tc sp' s₁ e₁} {dst : Memref sig .tc sp s₂ e₂}
    {w₁ : src.view.WordExact} {w₂ : dst.view.WordExact} (hn : dst.view.dmaCredit = NB)
    {hl₁ : _} {hl₂ : _} {hl₃ : _} {hx : _} {hm : _} {kk : PUnit → Prog (TpuEff nD τ sig (Elt F) Λ₀ .tc) α} :
    iprop(recs X K ∗ levAts L lv ∗ canWait (.inr (.inr (h, j))) 0 c ∗ owing c l ∗ owns (c : Thread nD τ) (xbB k) fullShare (XB X c k) ∗ any c (outB k))
      ⊢ iprop(((owing c l ∗ semVal (rcvCell h j c) 0 ∗ any c (xbB k) ∗ any c (rvB s) ∗ owns (c : Thread nD τ) (outB k) fullShare (addf (XB X c k) B))
            -∗ wp frame (wpE (defs₀ (F := F)) 𝒱₀ c none) Set.univ (kk ⟨⟩) Q)
        -∗ wp frame (wpE (defs₀ (F := F)) 𝒱₀ c none) Set.univ
          (.op (.waitDma2 sm src dst w₁ w₂) fun _ =>
            .op (.load xbM (Rect.unit (s := S4096x2048) of S512x2048.size ib).toLoadRect hl₁) fun a =>
            .op (.load rvM (Rect.unit (s := S3072x2048) og S512x2048.size ig).toLoadRect hl₂) fun b =>
            .op (.load outM (Rect.unit (s := S4096x2048) of S512x2048.size ib).toLoadRect hl₃) fun _ =>
            .op (.store outM (Rect.unit (s := S4096x2048) of S512x2048.size ib) (pay a b) Finset.univ hx hm) kk) Q) := by
  iintro ⟨#HR, #Hlev, Hw, HO, Ha, Ho⟩ Hk
  iapply (wait_last X K c (.inr (.inr (h, j))) 0 rfl l hl hs hn) $$ [Hw HO]
  · isplitr; · iexact HR
    isplitr; · iexact Hlev
    isplitl [Hw] <;> iassumption
  iintro ⟨HO, Hz, Hpay⟩
  ihave Hb := (show dmaPay X (.inr (.inr (h, j))) 0 c ⊢ (owns (c : Thread nD τ) (rvB s) fullShare B : sProp 𝕄) from Entails.of_eq hp) $$ Hpay
  iapply (add_block c k s hof hog hpay) $$ [Ha Hb Ho]
  · isplitl [Ha]; · iexact Ha
    isplitl [Hb] <;> iassumption
  iintro ⟨Ha, Hb, Ho⟩
  iapply Hk
  isplitl [HO]; · iexact HO
  isplitl [Hz]; · iexact Hz
  isplitl [Ha]; · iexact Ha
  isplitl [Hb] <;> iassumption

/-- The second exchange's wait, and the sum in place: the block is finished, and the partner's block is here to be written. -/
theorem recv_finish {Q : α → sProp 𝕄} (h : Bool) (l : List (Bool × Fin 6)) (hl : ∀ p ∈ l, lvK (.inr (.inr (h, 2))) < lvK (.inr (.inr p)))
    {sm : DmaSem sig} (hs : sm = rcvS h 2) (hof : of = off 8 (bk h 3 c)) (hog : og = off 6 (sl h 2 c))
    {pay : (S512x2048.Idx → Elt F .bf16) → (S512x2048.Idx → Elt F .bf16) → S512x2048.Idx → Elt F .bf16}
    (hpay : ∀ a b : FVec F S512x2048 .bf16, pay a b = addf a b)
    {sp sp' : Space} {s₁ s₂ : Shape} {e₁ e₂ : EltTy} {src : Memref sig .tc sp' s₁ e₁} {dst : Memref sig .tc sp s₂ e₂}
    {w₁ : src.view.WordExact} {w₂ : dst.view.WordExact} (hn : dst.view.dmaCredit = NB)
    {hl₁ : _} {hl₂ : _} {hl₃ : _} {hx : _} {hm : _} {kk : PUnit → Prog (TpuEff nD τ sig (Elt F) Λ₀ .tc) α} :
    iprop(recs X K ∗ levAts L lv ∗ canWait (.inr (.inr (h, 2))) 0 c ∗ owing c l ∗ owns (c : Thread nD τ) (outB (bk h 3 c)) fullShare (PS X h c (bk h 3 c)))
      ⊢ iprop(((owing c l ∗ semVal (rcvCell h 2 c) 0 ∗ any (n2 h c) (outB (bk h 3 c)) ∗ any c (rvB (sl h 2 c))
              ∗ owns (c : Thread nD τ) (outB (bk h 3 c)) fullShare.left (TOT X h (ow h 3 c)) ∗ owns (c : Thread nD τ) (outB (bk h 3 c)) fullShare.right (TOT X h (ow h 3 c)))
            -∗ wp frame (wpE (defs₀ (F := F)) 𝒱₀ c none) Set.univ (kk ⟨⟩) Q)
        -∗ wp frame (wpE (defs₀ (F := F)) 𝒱₀ c none) Set.univ
          (.op (.waitDma2 sm src dst w₁ w₂) fun _ =>
            .op (.load outM (Rect.unit (s := S4096x2048) of S512x2048.size ib).toLoadRect hl₁) fun a =>
            .op (.load rvM (Rect.unit (s := S3072x2048) og S512x2048.size ig).toLoadRect hl₂) fun b =>
            .op (.load outM (Rect.unit (s := S4096x2048) of S512x2048.size ib).toLoadRect hl₃) fun _ =>
            .op (.store outM (Rect.unit (s := S4096x2048) of S512x2048.size ib) (pay a b) Finset.univ hx hm) kk) Q) := by
  iintro ⟨#HR, #Hlev, Hw, HO, Ho⟩ Hk
  iapply (wait_last X K c (.inr (.inr (h, 2))) 0 rfl l hl hs hn) $$ [Hw HO]
  · isplitr; · iexact HR
    isplitr; · iexact Hlev
    isplitl [Hw] <;> iassumption
  iintro ⟨HO, Hz, Hpay⟩
  ihave Hb := (show dmaPay X (.inr (.inr (h, 2))) 0 c ⊢ (iprop(owns (c : Thread nD τ) (rvB (sl h 2 c)) fullShare (PS X h (n2 h c) (bk h 3 c))
      ∗ owns (n2 h c : Thread nD τ) (outB (bk h 3 c)) fullShare (PS X h (n2 h c) (bk h 3 c))) : sProp 𝕄) from .rfl) $$ Hpay
  icases Hb with ⟨Hb, Hp⟩
  iapply (add_in_place c (bk h 3 c) (sl h 2 c) hof hog hpay) $$ [Hb Ho]
  · isplitl [Ho] <;> iassumption
  iintro ⟨Hb, Ho⟩
  ihave Ho := (show (owns (c : Thread nD τ) (outB (bk h 3 c)) fullShare (addf (PS X h c (bk h 3 c)) (PS X h (n2 h c) (bk h 3 c))) : sProp 𝕄)
      ⊢ iprop(owns (c : Thread nD τ) (outB (bk h 3 c)) fullShare.left (TOT X h (ow h 3 c)) ∗ owns (c : Thread nD τ) (outB (bk h 3 c)) fullShare.right (TOT X h (ow h 3 c)))
    from (owns_halves c (outB (bk h 3 c)) (TOT X h (ow h 3 c))).1) $$ Ho
  iapply Hk
  isplitl [HO]; · iexact HO
  isplitl [Hz]; · iexact Hz
  isplitl [Hp]; · iapply (any_intro (n2 h c)); iexact Hp
  isplitl [Hb]; · iexact Hb
  iexact Ho

end Rows

/-! ## The six transfers of a half -/

/-- What a transfer takes of the target's word and of the sender's own. -/
theorem can_send (h : Bool) (j : Fin 6) :
    iprop(toSend h j c ∗ reached ER (rcvCell h j (tgt h j c)) 0) ⊢ (canSend h j c : sProp 𝕄) := by
  unfold toSend canSend
  iintro ⟨⟨Ha, Hb, Hc, Hd⟩, He⟩
  isplitl [Ha]; · iexact Ha
  isplitl [Hb]; · iexact Hb
  isplitl [Hc]; · iexact Hc
  isplitl [Hd] <;> iassumption

/-- What each transfer lands, at its target. -/
theorem pay_out (h : Bool) :
    rcvPay X h 0 (tgt h 0 c) = (owns (tgt h 0 c : Thread nD τ) (rvB (sl h 0 c)) fullShare (XB X c (bk h 0 c)) : sProp 𝕄)
    ∧ rcvPay X h 1 (tgt h 1 c) = (owns (tgt h 1 c : Thread nD τ) (rvB (sl h 1 c)) fullShare (XB X c (bk h 1 c)) : sProp 𝕄)
    ∧ rcvPay X h 2 (tgt h 2 c) = (iprop(owns (tgt h 2 c : Thread nD τ) (rvB (sl h 2 c)) fullShare (PS X h c (bk h 2 c)) ∗ owns (c : Thread nD τ) (outB (bk h 2 c)) fullShare (PS X h c (bk h 2 c))) : sProp 𝕄)
    ∧ rcvPay X h 3 (tgt h 3 c) = (owns (tgt h 3 c : Thread nD τ) (outB (bk h 3 c)) fullShare (TOT X h (ow h 3 c)) : sProp 𝕄)
    ∧ rcvPay X h 4 (tgt h 4 c) = (owns (tgt h 4 c : Thread nD τ) (outB (bk h 3 c)) fullShare (TOT X h (ow h 3 c)) : sProp 𝕄)
    ∧ rcvPay X h 5 (tgt h 5 c) = (owns (tgt h 5 c : Thread nD τ) (outB (bk h 2 c)) fullShare (TOT X h (ow h 2 c)) : sProp 𝕄) := by
  have t1 : tgt h 0 c = n1 h c ∧ tgt h 1 c = n1 h c ∧ tgt h 4 c = n1 h c ∧ tgt h 5 c = n1 h c ∧ tgt h 2 c = n2 h c ∧ tgt h 3 c = n2 h c := by revert h c; decide
  obtain ⟨a0, a1, a4, a5, a2, a3⟩ := t1
  obtain ⟨b0, b1, b2⟩ := sl_n1 h c
  obtain ⟨o0, o1, o2, o3, o4⟩ := ow_n1 h c
  have o5 : ow h 2 (n2 h c) = ow h 3 c := by revert h c; decide
  rw [a0, a1, a2, a3, a4, a5]
  unfold rcvPay bk
  dsimp only
  rw [b0, b1, b2, o0, o1, o2, o3, o4, o5, n1_n1, n2_n2]
  exact ⟨rfl, rfl, rfl, rfl, rfl, rfl⟩

/-- What the neighbour gave at the barrier, as the targets of this device's transfers. -/
theorem take (h : Bool) : (barGive (F := F) h (n1 h c)) ⊢
    iprop((any (tgt h 0 c) (rvB (sl h 0 c)) ∗ any (tgt h 1 c) (rvB (sl h 1 c)) ∗ any (tgt (!h) 2 c) (rvB (sl (!h) 2 c)) ∗ any (tgt h 4 c) (outB (bk h 3 c)) ∗ any (tgt h 5 c) (outB (bk h 2 c)))
      ∗ reached (ER (F := F)) (rcvCell h 0 (tgt h 0 c)) 0 ∗ reached (ER (F := F)) (rcvCell h 1 (tgt h 1 c)) 0 ∗ reached (ER (F := F)) (rcvCell (!h) 2 (tgt (!h) 2 c)) 0
      ∗ reached (ER (F := F)) (rcvCell (!h) 3 (tgt (!h) 3 c)) 0 ∗ reached (ER (F := F)) (rcvCell h 4 (tgt h 4 c)) 0 ∗ reached (ER (F := F)) (rcvCell h 5 (tgt h 5 c)) 0) := by
  have t1 : tgt h 0 c = n1 h c ∧ tgt h 1 c = n1 h c ∧ tgt h 4 c = n1 h c ∧ tgt h 5 c = n1 h c ∧ tgt (!h) 2 c = n1 h c ∧ tgt (!h) 3 c = n1 h c := by revert h c; decide
  obtain ⟨a0, a1, a4, a5, a2, a3⟩ := t1
  obtain ⟨b0, b1, -⟩ := sl_n1 h c
  have b2 : sl (!h) 2 (n1 h c) = sl (!h) 2 c := by revert h c; decide
  obtain ⟨o0, o1, o2, o3, o4⟩ := ow_n1 h c
  rw [a0, a1, a2, a3, a4, a5]
  unfold barGive bk
  rw [b0, b1, b2, o0, o1]
  iintro ⟨H1, H2, H3, H4, H5, Hr⟩
  isplitr [Hr]
  · isplitl [H1]; · iexact H1
    isplitl [H2]; · iexact H2
    isplitl [H3]; · iexact H3
    isplitl [H4] <;> iassumption
  iexact Hr

end Cert.KernelIdeal.AllReduce
-- ==== Proof.KI.Body.lean ====
module

public import proofs.«01_k».proof.Proof.KI.Moves
public import Idealize.ShloMosaic.Lib.Pointwise.Reshape

@[expose] public section

noncomputable section

namespace Cert.KernelIdeal.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → S4096x2048.Idx → Elt F .f32) (K : GSem nD τ sig → ℕ) (c : Dev nD)

/-- A half's semaphores before the kernel, with the rights to pay its copies. -/
def halfGhost (h : Bool) (c : Dev nD) : sProp 𝕄 :=
  iprop((atPos ER (stgCell h c) 0 ∅ 0 ∗ reached ER (stgCell h c) 0)
    ∗ (dutyTok ER (stgCell h c) 0 false ∗ dutyTok ER (stgCell h c) 1 false ∗ dutyTok ER (stgCell h c) 2 false ∗ dutyTok ER (stgCell h c) 3 false)
    ∗ (toSend h 0 c ∗ toSend h 1 c ∗ toSend h 2 c ∗ toSend h 3 c ∗ toSend h 4 c ∗ toSend h 5 c)
    ∗ (canWait (.inr (.inr (h, 0))) 0 c ∗ canWait (.inr (.inr (h, 1))) 0 c ∗ canWait (.inr (.inr (h, 2))) 0 c ∗ canWait (.inr (.inr (h, 3))) 0 c ∗ canWait (.inr (.inr (h, 4))) 0 c
      ∗ canWait (.inr (.inr (h, 5))) 0 c)
    ∗ (reached ER (rcvCell h 0 c) 0 ∗ reached ER (rcvCell h 1 c) 0 ∗ reached ER (rcvCell h 2 c) 0 ∗ reached ER (rcvCell h 3 c) 0 ∗ reached ER (rcvCell h 4 c) 0
      ∗ reached ER (rcvCell h 5 c) 0))
/-- A half's memory before the kernel: the array's blocks, and every other block at contents not named. -/
def halfMem (h : Bool) (c : Dev nD) : sProp 𝕄 :=
  iprop(any c (stB h)
    ∗ (owns (c : Thread nD τ) (xB (bk h 0 c)) fullShare (XV X c (bk h 0 c)) ∗ owns (c : Thread nD τ) (xB (bk h 1 c)) fullShare (XV X c (bk h 1 c))
      ∗ owns (c : Thread nD τ) (xB (bk h 2 c)) fullShare (XV X c (bk h 2 c)) ∗ owns (c : Thread nD τ) (xB (bk h 3 c)) fullShare (XV X c (bk h 3 c)))
    ∗ (any c (xbB (bk h 0 c)) ∗ any c (xbB (bk h 1 c)) ∗ any c (xbB (bk h 2 c)) ∗ any c (xbB (bk h 3 c)))
    ∗ (any c (outB (bk h 0 c)) ∗ any c (outB (bk h 1 c)) ∗ any c (outB (bk h 2 c)) ∗ any c (outB (bk h 3 c)))
    ∗ (any c (rvB (sl h 0 c)) ∗ any c (rvB (sl h 1 c)) ∗ any c (rvB (sl h 2 c))))
/-- A half's semaphores after the kernel: every counter at zero. -/
def halfZero (h : Bool) (c : Dev nD) : sProp 𝕄 :=
  iprop(semVal (stgCell h c) 0
    ∗ (semVal (sndCell h 0 c) 0 ∗ semVal (sndCell h 1 c) 0 ∗ semVal (sndCell h 2 c) 0 ∗ semVal (sndCell h 3 c) 0 ∗ semVal (sndCell h 4 c) 0 ∗ semVal (sndCell h 5 c) 0)
    ∗ (semVal (rcvCell h 0 c) 0 ∗ semVal (rcvCell h 1 c) 0 ∗ semVal (rcvCell h 2 c) 0 ∗ semVal (rcvCell h 3 c) 0 ∗ semVal (rcvCell h 4 c) 0 ∗ semVal (rcvCell h 5 c) 0))
/-- A half's memory after the kernel: the array's blocks unchanged, the result's blocks each the sum over all devices. -/
def halfEnd (h : Bool) (c : Dev nD) : sProp 𝕄 :=
  iprop(any c (stB h)
    ∗ (owns (c : Thread nD τ) (xB (bk h 0 c)) fullShare (XV X c (bk h 0 c)) ∗ owns (c : Thread nD τ) (xB (bk h 1 c)) fullShare (XV X c (bk h 1 c))
      ∗ owns (c : Thread nD τ) (xB (bk h 2 c)) fullShare (XV X c (bk h 2 c)) ∗ owns (c : Thread nD τ) (xB (bk h 3 c)) fullShare (XV X c (bk h 3 c)))
    ∗ (any c (xbB (bk h 0 c)) ∗ any c (xbB (bk h 1 c)) ∗ any c (xbB (bk h 2 c)) ∗ any c (xbB (bk h 3 c)))
    ∗ (owns (c : Thread nD τ) (outB (bk h 0 c)) fullShare (TOT X h (ow h 0 c)) ∗ owns (c : Thread nD τ) (outB (bk h 1 c)) fullShare (TOT X h (ow h 1 c))
      ∗ owns (c : Thread nD τ) (outB (bk h 2 c)) fullShare (TOT X h (ow h 2 c)) ∗ owns (c : Thread nD τ) (outB (bk h 3 c)) fullShare (TOT X h (ow h 3 c)))
    ∗ (any c (rvB (sl h 0 c)) ∗ any c (rvB (sl h 1 c)) ∗ any c (rvB (sl h 2 c))))
/-- The barrier semaphore before the kernel, with the rights to signal both neighbours. -/
def barGhost (c : Dev nD) : sProp 𝕄 :=
  iprop(atPos ER (barCell c) 0 ∅ 0 ∗ cred (tallyAt (barCell c) () 2) ∗ (dutyTok ER (barCell (n1 false c)) 0 false ∗ reached ER (barCell (n1 false c)) 0)
    ∗ (dutyTok ER (barCell (n1 true c)) 0 true ∗ reached ER (barCell (n1 true c)) 0))

/-- What a device starts the kernel with. -/
def bodyPre (c : Dev nD) : sProp 𝕄 :=
  iprop(recs X K ∗ levAts L lv ∗ barGhost c ∗ halfGhost false c ∗ halfGhost true c ∗ halfMem X false c ∗ halfMem X true c ∗ ∃ W, owes (c : Thread nD τ) (O₀ c) W)
/-- What it ends the kernel with. -/
def bodyPost (c : Dev nD) : sProp 𝕄 :=
  iprop(semVal (barCell c) 0 ∗ halfZero false c ∗ halfZero true c ∗ halfEnd X false c ∗ halfEnd X true c ∗ owing c [])

/-- The narrowed block, however the program reshapes it. -/
theorem narrow_pay (v : FVec F S1x512x2048 .f32) :
    shapeCast S512x2048 (truncf .bf16 (shapeCast S512x2048 v shapeCasts_S1x512x2048_S512x2048) bitsLt_bf16_f32) shapeCasts_S512x2048_S512x2048
      = truncf .bf16 (shapeCast S512x2048 v shapeCasts_S1x512x2048_S512x2048) bitsLt_bf16_f32 := shapeCast_id _ _
/-- The sum of two blocks, however the program reshapes the first. -/
theorem finish_pay (a b : FVec F S512x2048 .bf16) :
    addf (shapeCast S512x2048 a shapeCasts_S512x2048_S512x2048) b = addf a b := by rw [shapeCast_id]

/-- The device of a device's TensorCore thread is the device. -/
theorem tc_fst (c : Dev nD) : (c : Thread nD τ).1 = c := rfl
/-- The first part of a pair is what it was made of. -/
theorem psigma_fst {α : Type} {β : α → Type} (a : α) (b : β a) : (PSigma.mk a b).1 = a := rfl
/-- The second part of a pair is what it was made of. -/
theorem psigma_snd {α : Type} {β : α → Type} (a : α) (b : β a) : (PSigma.mk a b).2 = b := rfl

/-- The end of the program. -/
theorem wp_ret_end (Q : PUnit → sProp 𝕄) : Q ⟨⟩ ⊢ wp frame (wpE (defs₀ (F := F)) 𝒱₀ c none) Set.univ (Prog.ret PUnit.unit) Q := by
  rw [wp_ret]
  iintro H; imodintro; iexact H

set_option backward.isDefEq.respectTransparency.types false in
set_option maxHeartbeats 4000000 in
set_option maxRecDepth 65536 in
/-- The kernel's run on one device: from its blocks and semaphores to the finished result with every semaphore at zero. -/
theorem run (Q : PUnit → sProp 𝕄) : iprop(bodyPre X K c ∗ (bodyPost X c -∗ Q ⟨⟩)) ⊢ wp frame (wpE (defs₀ (F := F)) 𝒱₀ c none) Set.univ (bodyAt0 (F := F) t0_0) Q := by
  unfold bodyAt0
  rw [cc0_body_eq_skeleton]; unfold cc0_body_skel
  rw [k0_part18_eq_skeleton]; unfold k0_part18_skel
  rw [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton, k0_part14_eq_skeleton,
    k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel k0_part11_skel
    k0_part12_skel k0_part13_skel k0_part14_skel k0_part15_skel k0_part16_skel k0_part17_skel
  simp (config := { proj := false }) only [tc_fst, psigma_fst, psigma_snd, semSignalWord, semWaitWord, Prog.lift, Prog.bind_op, Prog.bind_ret, Prog.pure_eq_ret, Prog.bind_assoc, wp_deviceId]
  unfold bodyPre barGhost halfGhost halfMem
  iintro ⟨⟨#HR, #Hlev, ⟨ab, cb, ⟨tbA, #rbA⟩, ⟨tbB, #rbB⟩⟩, ⟨⟨aA, raA⟩, ⟨tA0, tA1, tA2, tA3⟩, ⟨sA0, sA1, sA2, sA3, sA4, sA5⟩, ⟨vA0, vA1, vA2, vA3, vA4, vA5⟩, ⟨#mA0, #mA1, #mA2, #mA3, #mA4, #mA5⟩⟩, ⟨⟨aB, raB⟩, ⟨tB0, tB1, tB2, tB3⟩, ⟨sB0, sB1, sB2, sB3, sB4, sB5⟩, ⟨vB0, vB1, vB2, vB3, vB4, vB5⟩, ⟨#mB0, #mB1, #mB2, #mB3, #mB4, #mB5⟩⟩, ⟨gA, ⟨xA0, xA1, xA2, xA3⟩, ⟨wA0, wA1, wA2, wA3⟩, ⟨oA0, oA1, oA2, oA3⟩, ⟨qA0, qA1, qA2⟩⟩, ⟨gB, ⟨xB0, xB1, xB2, xB3⟩, ⟨wB0, wB1, wB2, wB3⟩, ⟨oB0, oB1, oB2, oB3⟩, ⟨qB0, qB1, qB2⟩⟩, ⟨%W, HO⟩⟩, Hend⟩
  ihave iA := (show iprop(any c (stB false) ∗ reached ER (stgCell false c) 0 ∗ atPos ER (stgCell false c) 0 ∅ 0) ⊢ (stgIdle (F := F) false 0 c : sProp 𝕄) from .rfl) $$ [gA raA aA]
  · isplitl [gA]; · iexact gA
    isplitl [raA] <;> iassumption
  ihave iB := (show iprop(any c (stB true) ∗ reached ER (stgCell true c) 0 ∗ atPos ER (stgCell true c) 0 ∅ 0) ⊢ (stgIdle (F := F) true 0 c : sProp 𝕄) from .rfl) $$ [gB raB aB]
  · isplitl [gB]; · iexact gB
    isplitl [raB] <;> iassumption
  iapply (copy_in X K c false 0 rfl (off1_eq c) rfl) $$ [iA xA0 tA0]
  · isplitr; · iexact HR
    isplitl [iA]; · iexact iA
    isplitl [xA0]; · iexact xA0
    iexact tA0
  iintro cA
  iapply (copy_in X K c true 0 rfl (off2_eq c) rfl) $$ [iB xB0 tB0]
  · isplitr; · iexact HR
    isplitl [iB]; · iexact iB
    isplitl [xB0]; · iexact xB0
    iexact tB0
  iintro cB
  iapply (signal X K c false (O₁ c) W (Fin.ext (devs_eq c).1.1) rfl) $$ [HO tbA qA0 qA1 qB2 oA1 oA0]
  · isplitr; · iexact HR
    isplitl [HO]; · iexact HO
    isplitl [tbA]; · iexact tbA
    isplitr; · iexact rbA
    unfold barGive
    isplitl [qA0]; · iexact qA0
    isplitl [qA1]; · iexact qA1
    isplitl [qB2]; · iexact qB2
    isplitl [oA1]; · iexact oA1
    isplitl [oA0]; · iexact oA0
    isplitr; · iexact mA0
    isplitr; · iexact mA1
    isplitr; · iexact mB2
    isplitr; · iexact mB3
    isplitr; · iexact mA4
    iexact mA5
  iintro HO
  iapply (signal X K c true (debt c sends) W (Fin.ext (devs_eq c).1.2) rfl) $$ [HO tbB qB0 qB1 qA2 oB1 oB0]
  · isplitr; · iexact HR
    isplitl [HO]; · iexact HO
    isplitl [tbB]; · iexact tbB
    isplitr; · iexact rbB
    unfold barGive
    isplitl [qB0]; · iexact qB0
    isplitl [qB1]; · iexact qB1
    isplitl [qA2]; · iexact qA2
    isplitl [oB1]; · iexact oB1
    isplitl [oB0]; · iexact oB0
    isplitr; · iexact mB0
    isplitr; · iexact mB1
    isplitr; · iexact mA2
    isplitr; · iexact mA3
    isplitr; · iexact mB4
    iexact mB5
  iintro HO
  iapply (wait_bar X K c W rfl) $$ [cb HO ab]
  · isplitr; · iexact HR
    isplitr; · iexact Hlev
    isplitl [cb]; · iexact cb
    isplitl [HO]; · iexact HO
    iexact ab
  iintro ⟨HO, zb, gA, gB⟩
  ihave gA := (take c false) $$ gA
  icases gA with ⟨⟨dA0, dA1, dB2, dA4, dA5⟩, #rA0, #rA1, #rB2, #rB3, #rA4, #rA5⟩
  ihave gB := (take c true) $$ gB
  icases gB with ⟨⟨dB0, dB1, dA2, dB4, dB5⟩, #rB0, #rB1, #rA2, #rA3, #rB4, #rB5⟩
  iapply (row X K c false 0 (by decide) [(false, 0), (true, 0), (false, 1), (true, 1), (false, 2), (true, 2), (false, 3), (false, 4), (true, 3), (true, 4), (false, 5), (true, 5)] (by decide) rfl (off3_eq c) rfl (fun v => narrow_pay v) (by rfl)) $$ [cA HO wA0]
  · isplitr; · iexact HR
    isplitr; · iexact Hlev
    isplitl [cA]; · iexact cA
    isplitl [HO]; · iexact HO
    iexact wA0
  iintro ⟨HO, iA, xA0, wA0⟩
  ihave sA0 := (can_send c false 0) $$ [sA0]
  · isplitl [sA0]; · iexact sA0
    iexact rA0
  iapply (send X K c false 0 [(true, 0), (false, 1), (true, 1), (false, 2), (true, 2), (false, 3), (false, 4), (true, 3), (true, 4), (false, 5), (true, 5)] (slice8_eq xbM (off1_eq c)) (slice6_eq rvM (off4_eq c)) rfl .rfl (Entails.of_eq (pay_out X c false).1.symm) (Fin.ext (devs_eq c).2.1.1) rfl rfl) $$ [sA0 HO wA0 dA0]
  · isplitr; · iexact HR
    isplitl [sA0]; · iexact sA0
    isplitl [HO]; · iexact HO
    isplitl [wA0]; · iexact wA0
    iexact dA0
  iintro ⟨kA0, HO⟩
  iapply (copy_in X K c false 1 rfl (off5_eq c) rfl) $$ [iA xA1 tA1]
  · isplitr; · iexact HR
    isplitl [iA]; · iexact iA
    isplitl [xA1]; · iexact xA1
    iexact tA1
  iintro cA
  iapply (row X K c true 0 (by decide) [(true, 0), (false, 1), (true, 1), (false, 2), (true, 2), (false, 3), (false, 4), (true, 3), (true, 4), (false, 5), (true, 5)] (by decide) rfl (off6_eq c) rfl (fun v => narrow_pay v) (by rfl)) $$ [cB HO wB0]
  · isplitr; · iexact HR
    isplitr; · iexact Hlev
    isplitl [cB]; · iexact cB
    isplitl [HO]; · iexact HO
    iexact wB0
  iintro ⟨HO, iB, xB0, wB0⟩
  ihave sB0 := (can_send c true 0) $$ [sB0]
  · isplitl [sB0]; · iexact sB0
    iexact rB0
  iapply (send X K c true 0 [(false, 1), (true, 1), (false, 2), (true, 2), (false, 3), (false, 4), (true, 3), (true, 4), (false, 5), (true, 5)] (slice8_eq xbM (off2_eq c)) (slice6_eq rvM (off7_eq c)) rfl .rfl (Entails.of_eq (pay_out X c true).1.symm) (Fin.ext (devs_eq c).2.1.2.1) rfl rfl) $$ [sB0 HO wB0 dB0]
  · isplitr; · iexact HR
    isplitl [sB0]; · iexact sB0
    isplitl [HO]; · iexact HO
    isplitl [wB0]; · iexact wB0
    iexact dB0
  iintro ⟨kB0, HO⟩
  iapply (copy_in X K c true 1 rfl (off8_eq c) rfl) $$ [iB xB1 tB1]
  · isplitr; · iexact HR
    isplitl [iB]; · iexact iB
    isplitl [xB1]; · iexact xB1
    iexact tB1
  iintro cB
  iapply (row X K c false 1 (by decide) [(false, 1), (true, 1), (false, 2), (true, 2), (false, 3), (false, 4), (true, 3), (true, 4), (false, 5), (true, 5)] (by decide) rfl (off9_eq c) rfl (fun v => narrow_pay v) (by rfl)) $$ [cA HO wA1]
  · isplitr; · iexact HR
    isplitr; · iexact Hlev
    isplitl [cA]; · iexact cA
    isplitl [HO]; · iexact HO
    iexact wA1
  iintro ⟨HO, iA, xA1, wA1⟩
  ihave sA1 := (can_send c false 1) $$ [sA1]
  · isplitl [sA1]; · iexact sA1
    iexact rA1
  iapply (send X K c false 1 [(true, 1), (false, 2), (true, 2), (false, 3), (false, 4), (true, 3), (true, 4), (false, 5), (true, 5)] (slice8_eq xbM (off5_eq c)) (slice6_eq rvM (off10_eq c)) rfl .rfl (Entails.of_eq (pay_out X c false).2.1.symm) (Fin.ext (devs_eq c).2.1.2.2.1) rfl rfl) $$ [sA1 HO wA1 dA1]
  · isplitr; · iexact HR
    isplitl [sA1]; · iexact sA1
    isplitl [HO]; · iexact HO
    isplitl [wA1]; · iexact wA1
    iexact dA1
  iintro ⟨kA1, HO⟩
  iapply (copy_in X K c false 2 rfl (off11_eq c) rfl) $$ [iA xA2 tA2]
  · isplitr; · iexact HR
    isplitl [iA]; · iexact iA
    isplitl [xA2]; · iexact xA2
    iexact tA2
  iintro cA
  iapply (row X K c true 1 (by decide) [(true, 1), (false, 2), (true, 2), (false, 3), (false, 4), (true, 3), (true, 4), (false, 5), (true, 5)] (by decide) rfl (off12_eq c) rfl (fun v => narrow_pay v) (by rfl)) $$ [cB HO wB1]
  · isplitr; · iexact HR
    isplitr; · iexact Hlev
    isplitl [cB]; · iexact cB
    isplitl [HO]; · iexact HO
    iexact wB1
  iintro ⟨HO, iB, xB1, wB1⟩
  ihave sB1 := (can_send c true 1) $$ [sB1]
  · isplitl [sB1]; · iexact sB1
    iexact rB1
  iapply (send X K c true 1 [(false, 2), (true, 2), (false, 3), (false, 4), (true, 3), (true, 4), (false, 5), (true, 5)] (slice8_eq xbM (off8_eq c)) (slice6_eq rvM (off13_eq c)) rfl .rfl (Entails.of_eq (pay_out X c true).2.1.symm) (Fin.ext (devs_eq c).2.1.2.2.2) rfl rfl) $$ [sB1 HO wB1 dB1]
  · isplitr; · iexact HR
    isplitl [sB1]; · iexact sB1
    isplitl [HO]; · iexact HO
    isplitl [wB1]; · iexact wB1
    iexact dB1
  iintro ⟨kB1, HO⟩
  iapply (copy_in X K c true 2 rfl (off14_eq c) rfl) $$ [iB xB2 tB2]
  · isplitr; · iexact HR
    isplitl [iB]; · iexact iB
    isplitl [xB2]; · iexact xB2
    iexact tB2
  iintro cB
  iapply (row X K c false 2 (by decide) [(false, 2), (true, 2), (false, 3), (false, 4), (true, 3), (true, 4), (false, 5), (true, 5)] (by decide) rfl (off15_eq c) rfl (fun v => narrow_pay v) (by rfl)) $$ [cA HO wA2]
  · isplitr; · iexact HR
    isplitr; · iexact Hlev
    isplitl [cA]; · iexact cA
    isplitl [HO]; · iexact HO
    iexact wA2
  iintro ⟨HO, iA, xA2, wA2⟩
  iapply (copy_in X K c false 3 rfl (off16_eq c) rfl) $$ [iA xA3 tA3]
  · isplitr; · iexact HR
    isplitl [iA]; · iexact iA
    isplitl [xA3]; · iexact xA3
    iexact tA3
  iintro cA
  iapply (row X K c true 2 (by decide) [(false, 2), (true, 2), (false, 3), (false, 4), (true, 3), (true, 4), (false, 5), (true, 5)] (by decide) rfl (off17_eq c) rfl (fun v => narrow_pay v) (by rfl)) $$ [cB HO wB2]
  · isplitr; · iexact HR
    isplitr; · iexact Hlev
    isplitl [cB]; · iexact cB
    isplitl [HO]; · iexact HO
    iexact wB2
  iintro ⟨HO, iB, xB2, wB2⟩
  iapply (copy_in X K c true 3 rfl (off18_eq c) rfl) $$ [iB xB3 tB3]
  · isplitr; · iexact HR
    isplitl [iB]; · iexact iB
    isplitl [xB3]; · iexact xB3
    iexact tB3
  iintro cB
  iapply (row X K c false 3 (by decide) [(false, 2), (true, 2), (false, 3), (false, 4), (true, 3), (true, 4), (false, 5), (true, 5)] (by decide) rfl (off19_eq c) rfl (fun v => narrow_pay v) (by rfl)) $$ [cA HO wA3]
  · isplitr; · iexact HR
    isplitr; · iexact Hlev
    isplitl [cA]; · iexact cA
    isplitl [HO]; · iexact HO
    iexact wA3
  iintro ⟨HO, iA, xA3, wA3⟩
  iapply (row X K c true 3 (by decide) [(false, 2), (true, 2), (false, 3), (false, 4), (true, 3), (true, 4), (false, 5), (true, 5)] (by decide) rfl (off20_eq c) rfl (fun v => narrow_pay v) (by rfl)) $$ [cB HO wB3]
  · isplitr; · iexact HR
    isplitr; · iexact Hlev
    isplitl [cB]; · iexact cB
    isplitl [HO]; · iexact HO
    iexact wB3
  iintro ⟨HO, iB, xB3, wB3⟩
  iapply (stg_close X K c false) $$ [iA]
  · isplitr; · iexact HR
    iexact iA
  iintro ⟨gA, zgA⟩
  iapply (stg_close X K c true) $$ [iB]
  · isplitr; · iexact HR
    iexact iB
  iintro ⟨gB, zgB⟩
  iapply (recv_add X K c false 0 (bk false 2 c) (sl false 0 c) rfl [(false, 2), (true, 2), (false, 3), (false, 4), (true, 3), (true, 4), (false, 5), (true, 5)] (by decide) rfl (off15_eq c) (off21_eq c) (fun _ _ => rfl) (by rfl)) $$ [vA0 HO wA2 oA2]
  · isplitr; · iexact HR
    isplitr; · iexact Hlev
    isplitl [vA0]; · iexact vA0
    isplitl [HO]; · iexact HO
    isplitl [wA2]; · iexact wA2
    iexact oA2
  iintro ⟨HO, zvA0, wA2, qA0, oA2⟩
  ihave sA2 := (can_send c false 2) $$ [sA2]
  · isplitl [sA2]; · iexact sA2
    iexact rA2
  iapply (send_over X K c false 2 [(true, 2), (false, 3), (false, 4), (true, 3), (true, 4), (false, 5), (true, 5)] (slice8_eq outM (off11_eq c)) (slice6_eq rvM ((offR_eq c).1)) rfl .rfl (Entails.of_eq (pay_out X c false).2.2.1.symm) (Fin.ext (devs_eq c).2.2.1.1) rfl rfl) $$ [sA2 HO oA2 dA2]
  · isplitr; · iexact HR
    isplitl [sA2]; · iexact sA2
    isplitl [HO]; · iexact HO
    isplitl [oA2]; · iexact oA2
    iexact dA2
  iintro ⟨kA2, HO⟩
  iapply (recv_add X K c true 0 (bk true 2 c) (sl true 0 c) rfl [(true, 2), (false, 3), (false, 4), (true, 3), (true, 4), (false, 5), (true, 5)] (by decide) rfl (off17_eq c) (off22_eq c) (fun _ _ => rfl) (by rfl)) $$ [vB0 HO wB2 oB2]
  · isplitr; · iexact HR
    isplitr; · iexact Hlev
    isplitl [vB0]; · iexact vB0
    isplitl [HO]; · iexact HO
    isplitl [wB2]; · iexact wB2
    iexact oB2
  iintro ⟨HO, zvB0, wB2, qB0, oB2⟩
  ihave sB2 := (can_send c true 2) $$ [sB2]
  · isplitl [sB2]; · iexact sB2
    iexact rB2
  iapply (send_over X K c true 2 [(false, 3), (false, 4), (true, 3), (true, 4), (false, 5), (true, 5)] (slice8_eq outM (off14_eq c)) (slice6_eq rvM ((offR_eq c).2)) rfl .rfl (Entails.of_eq (pay_out X c true).2.2.1.symm) (Fin.ext (devs_eq c).2.2.1.2) rfl rfl) $$ [sB2 HO oB2 dB2]
  · isplitr; · iexact HR
    isplitl [sB2]; · iexact sB2
    isplitl [HO]; · iexact HO
    isplitl [oB2]; · iexact oB2
    iexact dB2
  iintro ⟨kB2, HO⟩
  iapply (recv_add X K c false 1 (bk false 3 c) (sl false 1 c) rfl [(false, 3), (false, 4), (true, 3), (true, 4), (false, 5), (true, 5)] (by decide) rfl (off19_eq c) (off23_eq c) (fun _ _ => rfl) (by rfl)) $$ [vA1 HO wA3 oA3]
  · isplitr; · iexact HR
    isplitr; · iexact Hlev
    isplitl [vA1]; · iexact vA1
    isplitl [HO]; · iexact HO
    isplitl [wA3]; · iexact wA3
    iexact oA3
  iintro ⟨HO, zvA1, wA3, qA1, oA3⟩
  iapply (recv_add X K c true 1 (bk true 3 c) (sl true 1 c) rfl [(false, 3), (false, 4), (true, 3), (true, 4), (false, 5), (true, 5)] (by decide) rfl (off20_eq c) (off24_eq c) (fun _ _ => rfl) (by rfl)) $$ [vB1 HO wB3 oB3]
  · isplitr; · iexact HR
    isplitr; · iexact Hlev
    isplitl [vB1]; · iexact vB1
    isplitl [HO]; · iexact HO
    isplitl [wB3]; · iexact wB3
    iexact oB3
  iintro ⟨HO, zvB1, wB3, qB1, oB3⟩
  iapply (recv_finish X K c false [(false, 3), (false, 4), (true, 3), (true, 4), (false, 5), (true, 5)] (by decide) rfl (off19_eq c) ((offR_eq c).1) (fun a b => finish_pay a b) (by rfl)) $$ [vA2 HO oA3]
  · isplitr; · iexact HR
    isplitr; · iexact Hlev
    isplitl [vA2]; · iexact vA2
    isplitl [HO]; · iexact HO
    iexact oA3
  iintro ⟨HO, zvA2, dA3, qA2, oA3l, oA3r⟩
  ihave sA3 := (can_send c false 3) $$ [sA3]
  · isplitl [sA3]; · iexact sA3
    iexact rA3
  iapply (send X K c false 3 [(false, 4), (true, 3), (true, 4), (false, 5), (true, 5)] (slice8_eq outM (off16_eq c)) (slice8_eq outM (off16_eq c)) rfl .rfl (Entails.of_eq (pay_out X c false).2.2.2.1.symm) (Fin.ext (devs_eq c).2.2.2.1.1) rfl rfl) $$ [sA3 HO oA3l dA3]
  · isplitr; · iexact HR
    isplitl [sA3]; · iexact sA3
    isplitl [HO]; · iexact HO
    isplitl [oA3l]; · iexact oA3l
    iexact dA3
  iintro ⟨kA3, HO⟩
  ihave sA4 := (can_send c false 4) $$ [sA4]
  · isplitl [sA4]; · iexact sA4
    iexact rA4
  iapply (send X K c false 4 [(true, 3), (true, 4), (false, 5), (true, 5)] (slice8_eq outM (off16_eq c)) (slice8_eq outM (off16_eq c)) rfl .rfl (Entails.of_eq (pay_out X c false).2.2.2.2.1.symm) (Fin.ext (devs_eq c).2.2.2.1.2.1) rfl rfl) $$ [sA4 HO oA3r dA4]
  · isplitr; · iexact HR
    isplitl [sA4]; · iexact sA4
    isplitl [HO]; · iexact HO
    isplitl [oA3r]; · iexact oA3r
    iexact dA4
  iintro ⟨kA4, HO⟩
  iapply (recv_finish X K c true [(true, 3), (true, 4), (false, 5), (true, 5)] (by decide) rfl (off20_eq c) ((offR_eq c).2) (fun a b => finish_pay a b) (by rfl)) $$ [vB2 HO oB3]
  · isplitr; · iexact HR
    isplitr; · iexact Hlev
    isplitl [vB2]; · iexact vB2
    isplitl [HO]; · iexact HO
    iexact oB3
  iintro ⟨HO, zvB2, dB3, qB2, oB3l, oB3r⟩
  ihave sB3 := (can_send c true 3) $$ [sB3]
  · isplitl [sB3]; · iexact sB3
    iexact rB3
  iapply (send X K c true 3 [(true, 4), (false, 5), (true, 5)] (slice8_eq outM (off18_eq c)) (slice8_eq outM (off18_eq c)) rfl .rfl (Entails.of_eq (pay_out X c true).2.2.2.1.symm) (Fin.ext (devs_eq c).2.2.2.1.2.2.1) rfl rfl) $$ [sB3 HO oB3l dB3]
  · isplitr; · iexact HR
    isplitl [sB3]; · iexact sB3
    isplitl [HO]; · iexact HO
    isplitl [oB3l]; · iexact oB3l
    iexact dB3
  iintro ⟨kB3, HO⟩
  ihave sB4 := (can_send c true 4) $$ [sB4]
  · isplitl [sB4]; · iexact sB4
    iexact rB4
  iapply (send X K c true 4 [(false, 5), (true, 5)] (slice8_eq outM (off18_eq c)) (slice8_eq outM (off18_eq c)) rfl .rfl (Entails.of_eq (pay_out X c true).2.2.2.2.1.symm) (Fin.ext (devs_eq c).2.2.2.1.2.2.2) rfl rfl) $$ [sB4 HO oB3r dB4]
  · isplitr; · iexact HR
    isplitl [sB4]; · iexact sB4
    isplitl [HO]; · iexact HO
    isplitl [oB3r]; · iexact oB3r
    iexact dB4
  iintro ⟨kB4, HO⟩
  iapply (wait_last X K c (.inr (.inr (false, 3))) 0 rfl [(false, 5), (true, 5)] (by decide) rfl (by rfl)) $$ [vA3 HO]
  · isplitr; · iexact HR
    isplitr; · iexact Hlev
    isplitl [vA3]; · iexact vA3
    iexact HO
  iintro ⟨HO, zvA3, oA2⟩
  ihave oA2 := (show dmaPay X (.inr (.inr (false, 3))) 0 c ⊢ (owns (c : Thread nD τ) (outB (bk false 2 c)) fullShare (TOT X false (ow false 2 c)) : sProp 𝕄) from .rfl) $$ oA2
  ihave sA5 := (can_send c false 5) $$ [sA5]
  · isplitl [sA5]; · iexact sA5
    iexact rA5
  iapply (send X K c false 5 [(true, 5)] (slice8_eq outM (off11_eq c)) (slice8_eq outM (off11_eq c)) rfl .rfl (Entails.of_eq (pay_out X c false).2.2.2.2.2.symm) (Fin.ext (devs_eq c).2.2.2.2.1) rfl rfl) $$ [sA5 HO oA2 dA5]
  · isplitr; · iexact HR
    isplitl [sA5]; · iexact sA5
    isplitl [HO]; · iexact HO
    isplitl [oA2]; · iexact oA2
    iexact dA5
  iintro ⟨kA5, HO⟩
  iapply (wait_last X K c (.inr (.inr (true, 3))) 0 rfl [(true, 5)] (by decide) rfl (by rfl)) $$ [vB3 HO]
  · isplitr; · iexact HR
    isplitr; · iexact Hlev
    isplitl [vB3]; · iexact vB3
    iexact HO
  iintro ⟨HO, zvB3, oB2⟩
  ihave oB2 := (show dmaPay X (.inr (.inr (true, 3))) 0 c ⊢ (owns (c : Thread nD τ) (outB (bk true 2 c)) fullShare (TOT X true (ow true 2 c)) : sProp 𝕄) from .rfl) $$ oB2
  ihave sB5 := (can_send c true 5) $$ [sB5]
  · isplitl [sB5]; · iexact sB5
    iexact rB5
  iapply (send X K c true 5 [] (slice8_eq outM (off14_eq c)) (slice8_eq outM (off14_eq c)) rfl .rfl (Entails.of_eq (pay_out X c true).2.2.2.2.2.symm) (Fin.ext (devs_eq c).2.2.2.2.2) rfl rfl) $$ [sB5 HO oB2 dB5]
  · isplitr; · iexact HR
    isplitl [sB5]; · iexact sB5
    isplitl [HO]; · iexact HO
    isplitl [oB2]; · iexact oB2
    iexact dB5
  iintro ⟨kB5, HO⟩
  iapply (wait_last X K c (.inr (.inr (false, 4))) 0 rfl [] (by decide) rfl (by rfl)) $$ [vA4 HO]
  · isplitr; · iexact HR
    isplitr; · iexact Hlev
    isplitl [vA4]; · iexact vA4
    iexact HO
  iintro ⟨HO, zvA4, oA1⟩
  ihave oA1 := (show dmaPay X (.inr (.inr (false, 4))) 0 c ⊢ (owns (c : Thread nD τ) (outB (bk false 1 c)) fullShare (TOT X false (ow false 1 c)) : sProp 𝕄) from .rfl) $$ oA1
  iapply (wait_last X K c (.inr (.inr (false, 5))) 0 rfl [] (by decide) rfl (by rfl)) $$ [vA5 HO]
  · isplitr; · iexact HR
    isplitr; · iexact Hlev
    isplitl [vA5]; · iexact vA5
    iexact HO
  iintro ⟨HO, zvA5, oA0⟩
  ihave oA0 := (show dmaPay X (.inr (.inr (false, 5))) 0 c ⊢ (owns (c : Thread nD τ) (outB (bk false 0 c)) fullShare (TOT X false (ow false 0 c)) : sProp 𝕄) from .rfl) $$ oA0
  iapply (wait_last X K c (.inr (.inr (true, 4))) 0 rfl [] (by decide) rfl (by rfl)) $$ [vB4 HO]
  · isplitr; · iexact HR
    isplitr; · iexact Hlev
    isplitl [vB4]; · iexact vB4
    iexact HO
  iintro ⟨HO, zvB4, oB1⟩
  ihave oB1 := (show dmaPay X (.inr (.inr (true, 4))) 0 c ⊢ (owns (c : Thread nD τ) (outB (bk true 1 c)) fullShare (TOT X true (ow true 1 c)) : sProp 𝕄) from .rfl) $$ oB1
  iapply (wait_last X K c (.inr (.inr (true, 5))) 0 rfl [] (by decide) rfl (by rfl)) $$ [vB5 HO]
  · isplitr; · iexact HR
    isplitr; · iexact Hlev
    isplitl [vB5]; · iexact vB5
    iexact HO
  iintro ⟨HO, zvB5, oB0⟩
  ihave oB0 := (show dmaPay X (.inr (.inr (true, 5))) 0 c ⊢ (owns (c : Thread nD τ) (outB (bk true 0 c)) fullShare (TOT X true (ow true 0 c)) : sProp 𝕄) from .rfl) $$ oB0
  iapply (wait_last X K c (.inr (.inl (false, 0))) 0 rfl [] (by decide) rfl (by rfl)) $$ [kA0 HO]
  · isplitr; · iexact HR
    isplitr; · iexact Hlev
    isplitl [kA0]; · iexact kA0
    iexact HO
  iintro ⟨HO, zkA0, wA0⟩
  ihave wA0 := (show dmaPay X (.inr (.inl (false, 0))) 0 c ⊢ (owns (c : Thread nD τ) (xbB (bk false 0 c)) fullShare (XB X c (bk false 0 c)) : sProp 𝕄) from .rfl) $$ wA0
  iapply (wait_last X K c (.inr (.inl (false, 1))) 0 rfl [] (by decide) rfl (by rfl)) $$ [kA1 HO]
  · isplitr; · iexact HR
    isplitr; · iexact Hlev
    isplitl [kA1]; · iexact kA1
    iexact HO
  iintro ⟨HO, zkA1, wA1⟩
  ihave wA1 := (show dmaPay X (.inr (.inl (false, 1))) 0 c ⊢ (owns (c : Thread nD τ) (xbB (bk false 1 c)) fullShare (XB X c (bk false 1 c)) : sProp 𝕄) from .rfl) $$ wA1
  iapply (wait_last X K c (.inr (.inl (true, 0))) 0 rfl [] (by decide) rfl (by rfl)) $$ [kB0 HO]
  · isplitr; · iexact HR
    isplitr; · iexact Hlev
    isplitl [kB0]; · iexact kB0
    iexact HO
  iintro ⟨HO, zkB0, wB0⟩
  ihave wB0 := (show dmaPay X (.inr (.inl (true, 0))) 0 c ⊢ (owns (c : Thread nD τ) (xbB (bk true 0 c)) fullShare (XB X c (bk true 0 c)) : sProp 𝕄) from .rfl) $$ wB0
  iapply (wait_last X K c (.inr (.inl (true, 1))) 0 rfl [] (by decide) rfl (by rfl)) $$ [kB1 HO]
  · isplitr; · iexact HR
    isplitr; · iexact Hlev
    isplitl [kB1]; · iexact kB1
    iexact HO
  iintro ⟨HO, zkB1, wB1⟩
  ihave wB1 := (show dmaPay X (.inr (.inl (true, 1))) 0 c ⊢ (owns (c : Thread nD τ) (xbB (bk true 1 c)) fullShare (XB X c (bk true 1 c)) : sProp 𝕄) from .rfl) $$ wB1
  iapply (wait_last X K c (.inr (.inl (false, 2))) 0 rfl [] (by decide) rfl (by rfl)) $$ [kA2 HO]
  · isplitr; · iexact HR
    isplitr; · iexact Hlev
    isplitl [kA2]; · iexact kA2
    iexact HO
  iintro ⟨HO, zkA2, -⟩
  iapply (wait_last X K c (.inr (.inl (true, 2))) 0 rfl [] (by decide) rfl (by rfl)) $$ [kB2 HO]
  · isplitr; · iexact HR
    isplitr; · iexact Hlev
    isplitl [kB2]; · iexact kB2
    iexact HO
  iintro ⟨HO, zkB2, -⟩
  iapply (wait_last X K c (.inr (.inl (false, 3))) 0 rfl [] (by decide) rfl (by rfl)) $$ [kA3 HO]
  · isplitr; · iexact HR
    isplitr; · iexact Hlev
    isplitl [kA3]; · iexact kA3
    iexact HO
  iintro ⟨HO, zkA3, oA3l⟩
  ihave oA3l := (show dmaPay X (.inr (.inl (false, 3))) 0 c ⊢ (owns (c : Thread nD τ) (outB (bk false 3 c)) fullShare.left (TOT X false (ow false 3 c)) : sProp 𝕄) from .rfl) $$ oA3l
  iapply (wait_last X K c (.inr (.inl (true, 3))) 0 rfl [] (by decide) rfl (by rfl)) $$ [kB3 HO]
  · isplitr; · iexact HR
    isplitr; · iexact Hlev
    isplitl [kB3]; · iexact kB3
    iexact HO
  iintro ⟨HO, zkB3, oB3l⟩
  ihave oB3l := (show dmaPay X (.inr (.inl (true, 3))) 0 c ⊢ (owns (c : Thread nD τ) (outB (bk true 3 c)) fullShare.left (TOT X true (ow true 3 c)) : sProp 𝕄) from .rfl) $$ oB3l
  iapply (wait_last X K c (.inr (.inl (false, 4))) 0 rfl [] (by decide) rfl (by rfl)) $$ [kA4 HO]
  · isplitr; · iexact HR
    isplitr; · iexact Hlev
    isplitl [kA4]; · iexact kA4
    iexact HO
  iintro ⟨HO, zkA4, oA3r⟩
  ihave oA3r := (show dmaPay X (.inr (.inl (false, 4))) 0 c ⊢ (owns (c : Thread nD τ) (outB (bk false 3 c)) fullShare.right (TOT X false (ow false 3 c)) : sProp 𝕄) from .rfl) $$ oA3r
  iapply (wait_last X K c (.inr (.inl (false, 5))) 0 rfl [] (by decide) rfl (by rfl)) $$ [kA5 HO]
  · isplitr; · iexact HR
    isplitr; · iexact Hlev
    isplitl [kA5]; · iexact kA5
    iexact HO
  iintro ⟨HO, zkA5, oA2⟩
  ihave oA2 := (show dmaPay X (.inr (.inl (false, 5))) 0 c ⊢ (owns (c : Thread nD τ) (outB (bk false 2 c)) fullShare (TOT X false (ow false 2 c)) : sProp 𝕄) from .rfl) $$ oA2
  iapply (wait_last X K c (.inr (.inl (true, 4))) 0 rfl [] (by decide) rfl (by rfl)) $$ [kB4 HO]
  · isplitr; · iexact HR
    isplitr; · iexact Hlev
    isplitl [kB4]; · iexact kB4
    iexact HO
  iintro ⟨HO, zkB4, oB3r⟩
  ihave oB3r := (show dmaPay X (.inr (.inl (true, 4))) 0 c ⊢ (owns (c : Thread nD τ) (outB (bk true 3 c)) fullShare.right (TOT X true (ow true 3 c)) : sProp 𝕄) from .rfl) $$ oB3r
  iapply (wait_last X K c (.inr (.inl (true, 5))) 0 rfl [] (by decide) rfl (by rfl)) $$ [kB5 HO]
  · isplitr; · iexact HR
    isplitr; · iexact Hlev
    isplitl [kB5]; · iexact kB5
    iexact HO
  iintro ⟨HO, zkB5, oB2⟩
  ihave oB2 := (show dmaPay X (.inr (.inl (true, 5))) 0 c ⊢ (owns (c : Thread nD τ) (outB (bk true 2 c)) fullShare (TOT X true (ow true 2 c)) : sProp 𝕄) from .rfl) $$ oB2
  ihave oA3 := (owns_halves c (outB (bk false 3 c)) (TOT X false (ow false 3 c))).2 $$ [oA3l oA3r]
  · isplitl [oA3l]; · iexact oA3l
    iexact oA3r
  ihave oB3 := (owns_halves c (outB (bk true 3 c)) (TOT X true (ow true 3 c))).2 $$ [oB3l oB3r]
  · isplitl [oB3l]; · iexact oB3l
    iexact oB3r
  iapply (wp_ret_end c Q)
  iapply Hend
  unfold bodyPost halfZero halfEnd
  ihave wA0 := (any_intro c (xbB (bk false 0 c)) (XB X c (bk false 0 c))) $$ wA0
  ihave wA1 := (any_intro c (xbB (bk false 1 c)) (XB X c (bk false 1 c))) $$ wA1
  ihave wB0 := (any_intro c (xbB (bk true 0 c)) (XB X c (bk true 0 c))) $$ wB0
  ihave wB1 := (any_intro c (xbB (bk true 1 c)) (XB X c (bk true 1 c))) $$ wB1
  isplitl [zb]
  · iexact zb
  isplitl [zgA zkA0 zkA1 zkA2 zkA3 zkA4 zkA5 zvA0 zvA1 zvA2 zvA3 zvA4 zvA5]
  · isplitl [zgA]
    · iexact zgA
    isplitl [zkA0 zkA1 zkA2 zkA3 zkA4 zkA5]
    · isplitl [zkA0]
      · iexact zkA0
      isplitl [zkA1]
      · iexact zkA1
      isplitl [zkA2]
      · iexact zkA2
      isplitl [zkA3]
      · iexact zkA3
      isplitl [zkA4]
      · iexact zkA4
      iexact zkA5
    isplitl [zvA0]
    · iexact zvA0
    isplitl [zvA1]
    · iexact zvA1
    isplitl [zvA2]
    · iexact zvA2
    isplitl [zvA3]
    · iexact zvA3
    isplitl [zvA4]
    · iexact zvA4
    iexact zvA5
  isplitl [zgB zkB0 zkB1 zkB2 zkB3 zkB4 zkB5 zvB0 zvB1 zvB2 zvB3 zvB4 zvB5]
  · isplitl [zgB]
    · iexact zgB
    isplitl [zkB0 zkB1 zkB2 zkB3 zkB4 zkB5]
    · isplitl [zkB0]
      · iexact zkB0
      isplitl [zkB1]
      · iexact zkB1
      isplitl [zkB2]
      · iexact zkB2
      isplitl [zkB3]
      · iexact zkB3
      isplitl [zkB4]
      · iexact zkB4
      iexact zkB5
    isplitl [zvB0]
    · iexact zvB0
    isplitl [zvB1]
    · iexact zvB1
    isplitl [zvB2]
    · iexact zvB2
    isplitl [zvB3]
    · iexact zvB3
    isplitl [zvB4]
    · iexact zvB4
    iexact zvB5
  isplitl [gA xA0 xA1 xA2 xA3 wA0 wA1 wA2 wA3 oA0 oA1 oA2 oA3 qA0 qA1 qA2]
  · isplitl [gA]
    · iexact gA
    isplitl [xA0 xA1 xA2 xA3]
    · isplitl [xA0]
      · iexact xA0
      isplitl [xA1]
      · iexact xA1
      isplitl [xA2]
      · iexact xA2
      iexact xA3
    isplitl [wA0 wA1 wA2 wA3]
    · isplitl [wA0]
      · iexact wA0
      isplitl [wA1]
      · iexact wA1
      isplitl [wA2]
      · iexact wA2
      iexact wA3
    isplitl [oA0 oA1 oA2 oA3]
    · isplitl [oA0]
      · iexact oA0
      isplitl [oA1]
      · iexact oA1
      isplitl [oA2]
      · iexact oA2
      iexact oA3
    isplitl [qA0]
    · iexact qA0
    isplitl [qA1]
    · iexact qA1
    iexact qA2
  isplitl [gB xB0 xB1 xB2 xB3 wB0 wB1 wB2 wB3 oB0 oB1 oB2 oB3 qB0 qB1 qB2]
  · isplitl [gB]
    · iexact gB
    isplitl [xB0 xB1 xB2 xB3]
    · isplitl [xB0]
      · iexact xB0
      isplitl [xB1]
      · iexact xB1
      isplitl [xB2]
      · iexact xB2
      iexact xB3
    isplitl [wB0 wB1 wB2 wB3]
    · isplitl [wB0]
      · iexact wB0
      isplitl [wB1]
      · iexact wB1
      isplitl [wB2]
      · iexact wB2
      iexact wB3
    isplitl [oB0 oB1 oB2 oB3]
    · isplitl [oB0]
      · iexact oB0
      isplitl [oB1]
      · iexact oB1
      isplitl [oB2]
      · iexact oB2
      iexact oB3
    isplitl [qB0]
    · iexact qB0
    isplitl [qB1]
    · iexact qB1
    iexact qB2
  iexact HO

end Cert.KernelIdeal.AllReduce
-- ==== Proof.KI.Memory.lean ====
module

public import proofs.«01_k».proof.Proof.KI.Body

@[expose] public section

noncomputable section

namespace Cert.KernelIdeal.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## Whole arrays and their blocks -/

/-- Every element type has a value. -/
instance elt_inhabited (e : EltTy) : Nonempty (Elt F e) := by
  cases e
  all_goals first
    | exact ⟨(0 : BitVec _)⟩
    | exact ⟨FloatOps.ofBits _ 0⟩
    | exact ⟨PUnit.unit⟩

omit [FloatOps F] in
/-- Contents given on each of pairwise disjoint rectangles are those of one array. -/
theorem glue {T : Type} {sh : Shape} {α : Type} [Nonempty α] (r : T → Rect sh) (hd : ∀ t t', t ≠ t' → Disjoint (r t).set (r t').set)
    (Y : (t : T) → (r t).shape.Idx → α) : ∃ X : sh.Idx → α, ∀ t j, X ((r t).emb j) = Y t j := by
  classical
  have key : ∀ t j t' j', (r t).emb j = (r t').emb j' → Y t j = Y t' j' := by
    intro t j t' j' h
    by_cases e : t = t'
    · subst e; rw [(r t).emb.injective h]
    · exact absurd (show (r t).emb j ∈ (r t').set from h ▸ (r t').idx_mem j') (Finset.disjoint_left.mp (hd t t' e) ((r t).idx_mem j))
  refine ⟨fun i => if h : ∃ t j, (r t).emb j = i then Y h.choose h.choose_spec.choose else Classical.arbitrary α, fun t j => ?_⟩
  have h : ∃ t' j', (r t').emb j' = (r t).emb j := ⟨t, j, rfl⟩
  show (if h : ∃ t' j', (r t').emb j' = (r t).emb j then Y h.choose h.choose_spec.choose else _) = _
  rw [dif_pos h]
  exact key _ _ _ _ h.choose_spec.choose_spec

section Rects

variable (c : Dev nD) {sp : Space} {sh : Shape} {e : EltTy} (m : Memref sig .tc sp sh e) {T : Type} [Fintype T] [DecidableEq T]
  (r : T → Rect sh) (hr : ∀ t a, (r t).stride a = 1) (hd : ∀ t t', t ≠ t' → Disjoint (r t).set (r t').set)
  (hcov : (Finset.univ : Finset T).biUnion (fun t => (r t).set) = Finset.univ)
include hd hcov

omit [FloatOps F] [DecidableEq T] in
/-- A memory at contents not named is its blocks, each at contents not named; -/
theorem any_split : (any c m : sProp 𝕄) ⊢ bigSep Finset.univ fun t => any c (m.slice (r t) (hr t)) := by
  refine (show (any c m : sProp 𝕄) ⊢ iprop(∃ Y, owns (c : Thread nD τ) m fullShare Y) from .rfl).trans ?_
  iintro ⟨%Y, H⟩
  ihave H := (owns_rects (c : Thread nD τ) m fullShare r hr hd hcov Y) $$ H
  iapply (show (bigSep Finset.univ fun t => (owns (c : Thread nD τ) (m.slice (r t) (hr t)) fullShare (fun j => Y ((r t).emb j)) : sProp 𝕄))
    ⊢ bigSep Finset.univ fun t => any c (m.slice (r t) (hr t)) from bigSep_mono fun t _ => any_intro c (m.slice (r t) (hr t)) _) $$ H

/-- and back. -/
theorem any_join : bigSep Finset.univ (fun t => any c (m.slice (r t) (hr t))) ⊢ (any c m : sProp 𝕄) := by
  refine (bigSep_exists_pi (Y := fun t => (r t).shape.Idx → Elt F e) Finset.univ
    (fun t Y => (owns (c : Thread nD τ) (m.slice (r t) (hr t)) fullShare Y : sProp 𝕄))).trans ?_
  iintro ⟨%Y, H⟩
  obtain ⟨X, hX⟩ := glue r hd Y
  obtain rfl : Y = fun t j => X ((r t).emb j) := funext fun t => funext fun j => (hX t j).symm
  ihave H := (owns_of_rects (c : Thread nD τ) m fullShare r hr hd hcov X) $$ H
  iapply (any_intro c m X) $$ H

end Rects

/-- Different blocks of an array are disjoint. -/
theorem r8_disj (t t' : Fin 8) (h : t ≠ t') : Disjoint (r8 t).set (r8 t').set :=
  Rect.unit_disjoint 0 (by
    have : t.val ≠ t'.val := fun e => h (Fin.ext e)
    show 512 * t.val + 512 ≤ 512 * t'.val ∨ 512 * t'.val + 512 ≤ 512 * t.val
    omega)
/-- Different receive slots are disjoint. -/
theorem r6_disj (t t' : Fin 6) (h : t ≠ t') : Disjoint (r6 t).set (r6 t').set :=
  Rect.unit_disjoint 0 (by
    have : t.val ≠ t'.val := fun e => h (Fin.ext e)
    show 512 * t.val + 512 ≤ 512 * t'.val ∨ 512 * t'.val + 512 ≤ 512 * t.val
    omega)
/-- The two stage slots are disjoint. -/
theorem rS_disj (t t' : Bool) (h : t ≠ t') : Disjoint (rS t).set (rS t').set :=
  Rect.unit_disjoint 0 (by revert h; cases t <;> cases t' <;> decide)

/-- The block of rows of row `i`. -/
def rowBlk (i : S4096x2048.Idx) : Fin 8 := ⟨(i 0).val / 512, by have : (i 0).val < 4096 := (i 0).isLt; omega⟩
/-- Row `i` inside its block. -/
def rowIn (i : S4096x2048.Idx) : S512x2048.Idx
  | 0 => ⟨(i 0).val % 512, Nat.mod_lt _ (by decide)⟩
  | 1 => i 1

/-- An index is its place within its block. -/
theorem r8_row (i : S4096x2048.Idx) : (r8 (rowBlk i)).emb (rowIn i) = i := by
  funext a
  refine Fin.ext ?_
  match a with
  | 0 => show 512 * ((i 0).val / 512) + 1 * ((i 0).val % 512) = (i 0).val; omega
  | 1 => show 0 + 1 * (i 1).val = (i 1).val; omega

/-- An index within block `k` has block `k`. -/
theorem rowBlk_emb (k : Fin 8) (j : S512x2048.Idx) : rowBlk ((r8 k).emb j) = k := by
  refine Fin.ext ?_
  have : (j 0).val < 512 := (j 0).isLt
  show (512 * k.val + 1 * (j 0).val) / 512 = k.val
  omega

/-- The eight blocks are the whole array. -/
theorem r8_cov : (Finset.univ : Finset (Fin 8)).biUnion (fun t => (r8 t).set) = Finset.univ := by
  refine Finset.eq_univ_iff_forall.mpr fun i => Finset.mem_biUnion.mpr ⟨rowBlk i, Finset.mem_univ _, ?_⟩
  have h := (r8 (rowBlk i)).idx_mem (rowIn i)
  rwa [show (r8 (rowBlk i)).idx (rowIn i) = i from r8_row i] at h

/-- The six slots are the whole receive buffer. -/
theorem r6_cov : (Finset.univ : Finset (Fin 6)).biUnion (fun t => (r6 t).set) = Finset.univ := by
  refine Finset.eq_univ_iff_forall.mpr fun i => ?_
  have h0 : (i 0).val < 3072 := (i 0).isLt
  refine Finset.mem_biUnion.mpr ⟨⟨(i 0).val / 512, by omega⟩, Finset.mem_univ _, (LoadRect.mem_set _).mpr fun a => ?_⟩
  match a with
  | 0 => exact ⟨(i 0).val % 512, Nat.mod_lt _ (by decide), by show (i 0).val = 512 * ((i 0).val / 512) + 1 * ((i 0).val % 512); omega⟩
  | 1 => exact ⟨(i 1).val, (i 1).isLt, by show (i 1).val = 0 + 1 * (i 1).val; omega⟩

/-- The two slots are the whole stage buffer. -/
theorem rS_cov : (Finset.univ : Finset Bool).biUnion (fun t => (rS t).set) = Finset.univ := by
  refine Finset.eq_univ_iff_forall.mpr fun i => ?_
  have h0 : (i 0).val < 2 := (i 0).isLt
  refine Finset.mem_biUnion.mpr ⟨decide ((i 0).val = 1), Finset.mem_univ _, (LoadRect.mem_set _).mpr fun a => ?_⟩
  match a with
  | 0 =>
    refine ⟨0, Nat.one_pos, ?_⟩
    show (i 0).val = (if decide ((i 0).val = 1) = true then 1 else 0) + 1 * 0
    simp only [decide_eq_true_eq]; split <;> omega
  | 1 => exact ⟨(i 1).val, (i 1).isLt, by show (i 1).val = 0 + 1 * (i 1).val; omega⟩
  | 2 => exact ⟨(i 2).val, (i 2).isLt, by show (i 2).val = 0 + 1 * (i 2).val; omega⟩

omit [FloatOps F] in
/-- A memory at contents not named, from its elements. -/
theorem any_eq (c : Dev nD) {sp : Space} {s : Shape} {e : EltTy} (m : Memref sig .tc sp s e) :
    (any c m : sProp 𝕄) = iprop(∃ f, m.view.loc (c : Thread nD τ) ↦[m.view.set]{fullShare} f) := by
  refine BI.equiv_iff.mp ⟨?_, ?_⟩
  · refine (show (any c m : sProp 𝕄) ⊢ iprop(∃ Y, ∃ f, ⌜m.view.read (Elt F) f = Y⌝ ∗ (m.view.loc (c : Thread nD τ) ↦[m.view.set]{fullShare} f)) from .rfl).trans ?_
    iintro ⟨%Y, %f, -, H⟩
    iexists f; iexact H
  · refine BIBase.Entails.trans ?_ (show iprop(∃ Y, ∃ f, ⌜m.view.read (Elt F) f = Y⌝ ∗ (m.view.loc (c : Thread nD τ) ↦[m.view.set]{fullShare} f)) ⊢ (any c m : sProp 𝕄) from .rfl)
    iintro ⟨%f, H⟩
    iexists _; iexists f
    isplitr; · ipureintro; rfl
    iexact H

omit [FloatOps F] in
/-- A stage slot, seen as a slab of the buffer or as a block of rows. -/
theorem any_slot (h : Bool) (c : Dev nD) : (any c (stM.slice (rS h) (fun _ => rfl)) : sProp 𝕄) = any c (stB h) := by
  rw [any_eq, any_eq, show (stB h).view.set = (stM.slice (rS h) (fun _ => rfl)).view.set from View.set_reshape _ _]

/-! ## The blocks in the order of a device -/

/-- One resource per block of a half, in the order device `c` walks them. -/
abbrev four (Φ : Fin 8 → sProp 𝕄) (h : Bool) (c : Dev nD) : sProp 𝕄 :=
  iprop(Φ (bk h 0 c) ∗ Φ (bk h 1 c) ∗ Φ (bk h 2 c) ∗ Φ (bk h 3 c))
/-- One resource per receive slot of a half. -/
abbrev three (Φ : Fin 6 → sProp 𝕄) (h : Bool) (c : Dev nD) : sProp 𝕄 :=
  iprop(Φ (sl h 0 c) ∗ Φ (sl h 1 c) ∗ Φ (sl h 2 c))

omit [FloatOps F] in
/-- Eight resources, one per block, are four of each half in a device's order. -/
theorem eight_eq (Φ : Fin 8 → sProp 𝕄) (c : Dev nD) : bigSep Finset.univ Φ = iprop(four Φ false c ∗ four Φ true c) := by
  rw [bigSep_univ_eq_bigSepL [bk false 0 c, bk false 1 c, bk false 2 c, bk false 3 c, bk true 0 c, bk true 1 c, bk true 2 c, bk true 3 c]
    (by revert c; decide) (by revert c; decide) Φ]
  refine BI.equiv_iff.mp ⟨?_, ?_⟩
  · show iprop(Φ (bk false 0 c) ∗ Φ (bk false 1 c) ∗ Φ (bk false 2 c) ∗ Φ (bk false 3 c) ∗ Φ (bk true 0 c) ∗ Φ (bk true 1 c) ∗ Φ (bk true 2 c) ∗ Φ (bk true 3 c)) ⊢ _
    unfold four
    iintro ⟨a, b, d, e, H⟩
    isplitl [a b d e]
    · isplitl [a]; · iexact a
      isplitl [b]; · iexact b
      isplitl [d] <;> iassumption
    iexact H
  · show _ ⊢ iprop(Φ (bk false 0 c) ∗ Φ (bk false 1 c) ∗ Φ (bk false 2 c) ∗ Φ (bk false 3 c) ∗ Φ (bk true 0 c) ∗ Φ (bk true 1 c) ∗ Φ (bk true 2 c) ∗ Φ (bk true 3 c))
    unfold four
    iintro ⟨⟨a, b, d, e⟩, H⟩
    isplitl [a]; · iexact a
    isplitl [b]; · iexact b
    isplitl [d]; · iexact d
    isplitl [e] <;> iassumption

omit [FloatOps F] in
/-- Six resources, one per receive slot, are three of each half in a device's order. -/
theorem six_eq (Φ : Fin 6 → sProp 𝕄) (c : Dev nD) : bigSep Finset.univ Φ = iprop(three Φ false c ∗ three Φ true c) := by
  rw [bigSep_univ_eq_bigSepL [sl false 0 c, sl false 1 c, sl false 2 c, sl true 0 c, sl true 1 c, sl true 2 c]
    (by revert c; decide) (by revert c; decide) Φ]
  refine BI.equiv_iff.mp ⟨?_, ?_⟩
  · show iprop(Φ (sl false 0 c) ∗ Φ (sl false 1 c) ∗ Φ (sl false 2 c) ∗ Φ (sl true 0 c) ∗ Φ (sl true 1 c) ∗ Φ (sl true 2 c)) ⊢ _
    unfold three
    iintro ⟨a, b, d, H⟩
    isplitl [a b d]
    · isplitl [a]; · iexact a
      isplitl [b] <;> iassumption
    iexact H
  · show _ ⊢ iprop(Φ (sl false 0 c) ∗ Φ (sl false 1 c) ∗ Φ (sl false 2 c) ∗ Φ (sl true 0 c) ∗ Φ (sl true 1 c) ∗ Φ (sl true 2 c))
    unfold three
    iintro ⟨⟨a, b, d⟩, H⟩
    isplitl [a]; · iexact a
    isplitl [b]; · iexact b
    isplitl [d] <;> iassumption

omit [FloatOps F] in
/-- Two resources, one by one. -/
theorem two_eq (Φ : Bool → sProp 𝕄) : bigSep Finset.univ Φ = iprop(Φ false ∗ Φ true) := by
  exact bigSep_univ_eq_bigSepL [false, true] (by decide) (by decide) Φ

/-! ## The result -/

variable (X : Dev nD → S4096x2048.Idx → Elt F .f32)

/-- The half of the array that block `k` lies in, and the device that finishes it. -/
def halfOf (k : Fin 8) : Bool := decide (4 ≤ k.val)
/-- The device that finishes block `k`. -/
def ownerOf (k : Fin 8) : Dev nD := (![0, 1, 2, 3, 0, 2, 1, 3] : Fin 8 → Fin 4) k

/-- A block of half `h` lies in half `h`. -/
theorem halfOf_blk (h : Bool) (o : Dev nD) : halfOf (blk h o) = h := by revert h o; decide
/-- The block that device `o` finishes is finished by `o`. -/
theorem ownerOf_blk (h : Bool) (o : Dev nD) : ownerOf (blk h o) = o := by revert h o; decide

/-- The narrow sum of the four devices' arrays as half `h`'s block of device `o` adds them. -/
def SUM (h : Bool) (o : Dev nD) : FVec F S4096x2048 .bf16 :=
  addf (addf (truncf .bf16 (X o) bitsLt_bf16_f32) (truncf .bf16 (X (n1 h o)) bitsLt_bf16_f32))
    (addf (truncf .bf16 (X (n2 h o)) bitsLt_bf16_f32) (truncf .bf16 (X (n1 h (n2 h o))) bitsLt_bf16_f32))

/-- The array every device ends with: in each block, the sum its owner formed. -/
def RES : S4096x2048.Idx → Elt F .bf16 := fun i => SUM X (halfOf (rowBlk i)) (ownerOf (rowBlk i)) i

/-- The result, in the block that device `o` finishes, is the sum that it formed. -/
theorem RES_blk (h : Bool) (o : Dev nD) : (fun j => RES X ((r8 (blk h o)).emb j)) = TOT X h o := by
  funext j
  show SUM X (halfOf (rowBlk _)) (ownerOf (rowBlk _)) _ = _
  rw [rowBlk_emb, halfOf_blk, ownerOf_blk]
  rfl

/-! ## The kernel's memory, split before it runs and joined after -/

/-- The buffers the kernel starts from, whole. -/
def memIn (c : Dev nD) : sProp 𝕄 :=
  iprop(owns (c : Thread nD τ) xM fullShare (X c) ∗ any c xbM ∗ any c stM ∗ any c rvM ∗ any c outM)
/-- The buffers it leaves, whole. -/
def memOut (c : Dev nD) : sProp 𝕄 :=
  iprop(owns (c : Thread nD τ) xM fullShare (X c) ∗ any c xbM ∗ any c stM ∗ any c rvM ∗ owns (c : Thread nD τ) outM fullShare (RES X))

/-- The whole buffers are the two halves' blocks. -/
theorem mem_split (c : Dev nD) : memIn X c ⊢ (iprop(halfMem X false c ∗ halfMem X true c) : sProp 𝕄) := by
  unfold memIn
  iintro ⟨Hx, Hw, Hs, Hr, Ho⟩
  ihave Hx := (owns_rects (c : Thread nD τ) xM fullShare r8 (fun _ _ => rfl) r8_disj r8_cov (X c)) $$ Hx
  ihave Hw := (any_split c xbM r8 (fun _ _ => rfl) r8_disj r8_cov) $$ Hw
  ihave Ho := (any_split c outM r8 (fun _ _ => rfl) r8_disj r8_cov) $$ Ho
  ihave Hr := (any_split c rvM r6 (fun _ _ => rfl) r6_disj r6_cov) $$ Hr
  ihave Hs := (any_split c stM rS (fun _ _ => rfl) rS_disj rS_cov) $$ Hs
  ihave Hx := (Entails.of_eq (eight_eq _ c)) $$ Hx
  ihave Hw := (Entails.of_eq (eight_eq _ c)) $$ Hw
  ihave Ho := (Entails.of_eq (eight_eq _ c)) $$ Ho
  ihave Hr := (Entails.of_eq (six_eq _ c)) $$ Hr
  ihave Hs := (Entails.of_eq (two_eq _)) $$ Hs
  icases Hx with ⟨HxA, HxB⟩
  icases Hw with ⟨HwA, HwB⟩
  icases Ho with ⟨HoA, HoB⟩
  icases Hr with ⟨HrA, HrB⟩
  icases Hs with ⟨HsA, HsB⟩
  unfold halfMem
  isplitl [HxA HwA HoA HrA HsA]
  · isplitl [HsA]; · iapply (Entails.of_eq (any_slot false c)) $$ HsA
    isplitl [HxA]; · iexact HxA
    isplitl [HwA]; · iexact HwA
    isplitl [HoA]; · iexact HoA
    iexact HrA
  · isplitl [HsB]; · iapply (Entails.of_eq (any_slot true c)) $$ HsB
    isplitl [HxB]; · iexact HxB
    isplitl [HwB]; · iexact HwB
    isplitl [HoB]; · iexact HoB
    iexact HrB

/-- The two halves' blocks after the kernel are the whole buffers, with the whole result. -/
theorem mem_join (c : Dev nD) : (iprop(halfEnd X false c ∗ halfEnd X true c) : sProp 𝕄) ⊢ memOut X c := by
  unfold halfEnd
  simp only [← RES_blk]
  iintro ⟨⟨HsA, HxA, HwA, HoA, HrA⟩, ⟨HsB, HxB, HwB, HoB, HrB⟩⟩
  ihave HsA := (Entails.of_eq (any_slot false c).symm) $$ HsA
  ihave HsB := (Entails.of_eq (any_slot true c).symm) $$ HsB
  unfold memOut
  isplitl [HxA HxB]
  · iapply (owns_of_rects (c : Thread nD τ) xM fullShare r8 (fun _ _ => rfl) r8_disj r8_cov (X c))
    iapply (Entails.of_eq (eight_eq _ c).symm)
    unfold four
    isplitl [HxA]; · iexact HxA
    iexact HxB
  isplitl [HwA HwB]
  · iapply (any_join c xbM r8 (fun _ _ => rfl) r8_disj r8_cov)
    iapply (Entails.of_eq (eight_eq _ c).symm)
    unfold four
    isplitl [HwA]; · iexact HwA
    iexact HwB
  isplitl [HsA HsB]
  · iapply (any_join c stM rS (fun _ _ => rfl) rS_disj rS_cov)
    iapply (Entails.of_eq (two_eq _).symm)
    isplitl [HsA]; · iexact HsA
    iexact HsB
  isplitl [HrA HrB]
  · iapply (any_join c rvM r6 (fun _ _ => rfl) r6_disj r6_cov)
    iapply (Entails.of_eq (six_eq _ c).symm)
    unfold three
    isplitl [HrA]; · iexact HrA
    iexact HrB
  iapply (owns_of_rects (c : Thread nD τ) outM fullShare r8 (fun _ _ => rfl) r8_disj r8_cov (RES X))
  iapply (Entails.of_eq (eight_eq _ c).symm)
  unfold four
  isplitl [HoA]; · iexact HoA
  iexact HoB

end Cert.KernelIdeal.AllReduce
-- ==== Proof.KI.Ghost.lean ====
module

public import proofs.«01_k».proof.Proof.KI.Memory
public import Idealize.ShloMosaic.Lib.Pipeline.RegionTalk
public import Idealize.ShloMosaic.Lib.Pipeline.Regions
public import Idealize.ShloMosaic.Lib.Pipeline.Kit
public import Idealize.ShloMosaic.Lib.StableHlo

@[expose] public section

noncomputable section

namespace Cert.KernelIdeal.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The kernel's own semaphores, one by one -/

/-- The kernel's own DMA semaphore `k`, as a semaphore of a device. -/
abbrev osem (k : DK) : SemLoc sig := .dma (dmaOf k)

/-- One resource per semaphore of a half. -/
abbrev halfOfAll (Φ : DK → sProp 𝕄) (h : Bool) : sProp 𝕄 :=
  iprop(Φ (.inl h) ∗ bigSep Finset.univ (fun j : Fin 6 => Φ (.inr (.inl (h, j)))) ∗ bigSep Finset.univ (fun j : Fin 6 => Φ (.inr (.inr (h, j)))))

omit [FloatOps F] in
/-- One resource for each half and each place is those of the first half and those of the second. -/
theorem pairs_eq {n : ℕ} (Φ : Bool × Fin n → sProp 𝕄) :
    bigSep Finset.univ Φ = iprop(bigSep Finset.univ (fun j => Φ (false, j)) ∗ bigSep Finset.univ (fun j => Φ (true, j))) := by
  rw [bigSep_univ_prod, two_eq]

omit [FloatOps F] in
/-- One resource for each of the kernel's own semaphores is those of the first half and those of the second. -/
theorem dk_eq (Φ : DK → sProp 𝕄) : bigSep Finset.univ Φ = iprop(halfOfAll Φ false ∗ halfOfAll Φ true) := by
  rw [bigSep_univ_sum, bigSep_univ_sum, two_eq, pairs_eq, pairs_eq]
  refine BI.equiv_iff.mp ⟨?_, ?_⟩
  · show iprop((Φ (.inl false) ∗ Φ (.inl true)) ∗ ((bigSep Finset.univ (fun j : Fin 6 => Φ (.inr (.inl (false, j)))) ∗ bigSep Finset.univ (fun j : Fin 6 => Φ (.inr (.inl (true, j)))))
      ∗ (bigSep Finset.univ (fun j : Fin 6 => Φ (.inr (.inr (false, j)))) ∗ bigSep Finset.univ (fun j : Fin 6 => Φ (.inr (.inr (true, j))))))) ⊢ iprop(halfOfAll Φ false ∗ halfOfAll Φ true)
    iintro ⟨⟨a, b⟩, ⟨d, e⟩, ⟨f, g⟩⟩
    isplitl [a d f]
    · isplitl [a]; · iexact a
      isplitl [d] <;> iassumption
    · isplitl [b]; · iexact b
      isplitl [e] <;> iassumption
  · show iprop(halfOfAll Φ false ∗ halfOfAll Φ true) ⊢ iprop((Φ (.inl false) ∗ Φ (.inl true)) ∗ ((bigSep Finset.univ (fun j : Fin 6 => Φ (.inr (.inl (false, j)))) ∗ bigSep Finset.univ (fun j : Fin 6 => Φ (.inr (.inl (true, j)))))
      ∗ (bigSep Finset.univ (fun j : Fin 6 => Φ (.inr (.inr (false, j)))) ∗ bigSep Finset.univ (fun j : Fin 6 => Φ (.inr (.inr (true, j)))))))
    iintro ⟨⟨a, d, f⟩, ⟨b, e, g⟩⟩
    isplitl [a b]; · isplitl [a] <;> iassumption
    isplitl [d e]; · isplitl [d] <;> iassumption
    isplitl [f] <;> iassumption

omit [FloatOps F] in
/-- Six resources, one by one. -/
theorem sixth_eq (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ
omit [FloatOps F] in
/-- Four resources, one by one. -/
theorem fourth_eq (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Every counter of both halves at zero is every own counter at zero. -/
theorem zeros (c : Dev nD) : (iprop(halfZero false c ∗ halfZero true c) : sProp 𝕄) ⊢ Pipeline.ownSems0 osem c := by
  refine BIBase.Entails.trans ?_ (Entails.of_eq (dk_eq (fun k => (semVal (dmaCell k c) 0 : sProp 𝕄))).symm)
  unfold halfOfAll
  simp only [sixth_eq]
  exact .rfl

/-! ## What a device holds of the protocol when the kernel is entered -/

variable (X : Dev nD → S4096x2048.Idx → Elt F .f32) (K : GSem nD τ sig → ℕ)

/-- The rights to pay the copies of device `c`: into its stages, to its send semaphores, to its targets' receive semaphores. -/
def rights (c : Dev nD) : sProp 𝕄 :=
  iprop((bigSep Finset.univ fun p : Bool × Fin 4 => dutyTok ER (stgCell p.1 c) p.2.val false)
    ∗ (bigSep Finset.univ fun p : Bool × Fin 6 => dutyTok ER (sndCell p.1 p.2 c) 0 false)
    ∗ (bigSep Finset.univ fun p : Bool × Fin 6 => dutyTok ER (rcvCell p.1 p.2 (tgt p.1 p.2 c)) 0 false))
/-- The credit for what arrives at device `c`. -/
def arrivals (c : Dev nD) : sProp 𝕄 := bigSep Finset.univ fun p : Bool × Fin 6 => cred (tallyAt (rcvCell p.1 p.2 c) () NB)
/-- A DMA semaphore opened, in its first round. -/
def opened (k : DK) (c : Dev nD) : sProp 𝕄 := iprop(atPos ER (dmaCell k c) 0 ∅ 0 ∗ reached ER (dmaCell k c) 0)
/-- The kernel's own semaphores not opened yet. -/
def dormant (c : Dev nD) : sProp 𝕄 := bigSep Finset.univ fun k : DK => openTok ER (dmaCell k c)

/-- One half's rights and opened semaphores are what its part of the kernel starts from. -/
theorem half_intro (h : Bool) (c : Dev nD) :
    (iprop(halfOfAll (fun k => opened k c) h
      ∗ (bigSep Finset.univ fun r : Fin 4 => dutyTok ER (stgCell h c) r.val false)
      ∗ (bigSep Finset.univ fun j : Fin 6 => dutyTok ER (sndCell h j c) 0 false)
      ∗ (bigSep Finset.univ fun j : Fin 6 => dutyTok ER (rcvCell h j (tgt h j c)) 0 false)
      ∗ (bigSep Finset.univ fun j : Fin 6 => cred (tallyAt (rcvCell h j c) () NB))) : sProp 𝕄) ⊢ halfGhost h c := by
  have e1 : (iprop((bigSep Finset.univ fun j : Fin 6 => opened (.inr (.inl (h, j))) c) ∗ (bigSep Finset.univ fun j : Fin 6 => dutyTok ER (sndCell h j c) 0 false)
      ∗ (bigSep Finset.univ fun j : Fin 6 => dutyTok ER (rcvCell h j (tgt h j c)) 0 false)) : sProp 𝕄) ⊢ bigSep Finset.univ fun j : Fin 6 => toSend h j c := by
    rw [← bigSep_sep', ← bigSep_sep']
    refine bigSep_mono fun j _ => ?_
    show iprop(opened (.inr (.inl (h, j))) c ∗ dutyTok ER (sndCell h j c) 0 false ∗ dutyTok ER (rcvCell h j (tgt h j c)) 0 false) ⊢ (toSend h j c : sProp 𝕄)
    unfold opened toSend
    iintro ⟨⟨a, b⟩, d, e⟩
    isplitl [a]; · iexact a
    isplitl [d]; · iexact d
    isplitl [e] <;> iassumption
  have e2 : (iprop((bigSep Finset.univ fun j : Fin 6 => opened (.inr (.inr (h, j))) c) ∗ (bigSep Finset.univ fun j : Fin 6 => cred (tallyAt (rcvCell h j c) () NB))) : sProp 𝕄)
      ⊢ (iprop((bigSep Finset.univ fun j : Fin 6 => canWait (.inr (.inr (h, j))) 0 c) ∗ (bigSep Finset.univ fun j : Fin 6 => reached ER (rcvCell h j c) 0)) : sProp 𝕄) := by
    rw [← bigSep_sep', ← bigSep_sep']
    refine bigSep_mono fun j _ => ?_
    show iprop(opened (.inr (.inr (h, j))) c ∗ cred (tallyAt (rcvCell h j c) () NB)) ⊢ (iprop(canWait (.inr (.inr (h, j))) 0 c ∗ reached ER (rcvCell h j c) 0) : sProp 𝕄)
    unfold opened canWait
    iintro ⟨⟨a, b⟩, d⟩
    isplitl [a d]
    · isplitl [a]; · iexact a
      iexact d
    iexact b
  iintro ⟨⟨Ho, Hs, Hr⟩, T4, T1, T2, C⟩
  ihave Hs := e1 $$ [Hs T1 T2]
  · isplitl [Hs]; · iexact Hs
    isplitl [T1] <;> iassumption
  ihave Hr := e2 $$ [Hr C]
  · isplitl [Hr] <;> iassumption
  icases Hr with ⟨Hw, Hr⟩
  unfold halfGhost
  isplitl [Ho]; · iapply (show (opened (.inl h) c : sProp 𝕄) ⊢ iprop(atPos ER (stgCell h c) 0 ∅ 0 ∗ reached ER (stgCell h c) 0) from .rfl) $$ Ho
  isplitl [T4]; · iapply (Entails.of_eq (fourth_eq (fun r : Fin 4 => (dutyTok ER (stgCell h c) r.val false : sProp 𝕄)))) $$ T4
  isplitl [Hs]; · iapply (Entails.of_eq (sixth_eq (fun j : Fin 6 => (toSend h j c : sProp 𝕄)))) $$ Hs
  isplitl [Hw]; · iapply (Entails.of_eq (sixth_eq (fun j : Fin 6 => (canWait (.inr (.inr (h, j))) 0 c : sProp 𝕄)))) $$ Hw
  iapply (Entails.of_eq (sixth_eq (fun j : Fin 6 => (reached ER (rcvCell h j c) 0 : sProp 𝕄)))) $$ Hr

/-- The own counters at zero open every own semaphore. -/
theorem open_all (c : Dev nD) :
    iprop(recs X K ∗ dormant c ∗ Pipeline.ownSems0 osem c) ⊢ (|={Set.univ}=> bigSep Finset.univ (fun k : DK => opened k c) : sProp 𝕄) := by
  have hk (k : DK) : iprop(recs X K ∗ (openTok ER (dmaCell k c) ∗ semVal (dmaCell k c) 0)) ⊢ (|={Set.univ}=> opened k c : sProp 𝕄) := by
    iintro ⟨#HR, Ho, Hs⟩
    imod (Rounds.cell_open ER (arRd X) (g := dmaCell k c) (Set.mem_univ (K (dmaCell k c)))) $$ [Ho Hs] with ⟨Hat, Hr⟩
    · isplitr; · iapply (recs_dma X K k c) $$ HR
      isplitl [Ho] <;> iassumption
    imodintro
    unfold opened
    isplitl [Hat] <;> iassumption
  refine BIBase.Entails.trans ?_ (bigSep_fupd Finset.univ (fun k : DK => (opened k c : sProp 𝕄)))
  refine BIBase.Entails.trans ?_ (bigSep_with_persistent (R := recs X K) (Φ := fun k : DK => (iprop(openTok ER (dmaCell k c) ∗ semVal (dmaCell k c) 0) : sProp 𝕄)) fun k _ => hk k)
  rw [bigSep_sep']
  exact .rfl

/-- What the region is entered with of the protocol. -/
def Tk (c : Dev nD) : sProp 𝕄 := iprop((∃ K, recs X K) ∗ barGhost c ∗ dormant c ∗ rights c ∗ arrivals c)
/-- What the kernel's body starts from of the protocol. -/
def Xk (c : Dev nD) : sProp 𝕄 := iprop((∃ K, recs X K) ∗ levAts L lv ∗ barGhost c ∗ halfGhost false c ∗ halfGhost true c)

/-- With the kernel's own counters at zero, what the launch dealt a device becomes what the kernel starts with. -/
theorem hopen (c : Dev nD) : iprop(Tk X c ∗ Pipeline.ownSems0 osem c ∗ levAts L lv) ⊢ (|={Set.univ}=> Xk X c : sProp 𝕄) := by
  unfold Tk Xk rights arrivals
  rw [pairs_eq, pairs_eq, pairs_eq, pairs_eq]
  iintro ⟨⟨⟨%K, #HR⟩, Hb, Hd, ⟨⟨gA, gB⟩, ⟨sA, sB⟩, ⟨rA, rB⟩⟩, ⟨cA, cB⟩⟩, Hz, Hlev⟩
  imod (open_all X K c) $$ [Hd Hz] with Ho
  · isplitr; · iexact HR
    isplitl [Hd] <;> iassumption
  imodintro
  ihave Ho := (Entails.of_eq (dk_eq (fun k : DK => (opened k c : sProp 𝕄)))) $$ Ho
  icases Ho with ⟨oA, oB⟩
  isplitr; · iexists K; iexact HR
  isplitl [Hlev]; · iexact Hlev
  isplitl [Hb]; · iexact Hb
  isplitl [oA gA sA rA cA]
  · iapply (half_intro false c)
    isplitl [oA]; · iexact oA
    isplitl [gA]; · iexact gA
    isplitl [sA]; · iexact sA
    isplitl [rA]; · iexact rA
    iexact cA
  · iapply (half_intro true c)
    isplitl [oB]; · iexact oB
    isplitl [gB]; · iexact gB
    isplitl [sB]; · iexact sB
    isplitl [rB]; · iexact rB
    iexact cB

/-! ## The launch's ghost state: every semaphore's cell, the barriers' open, the others dormant, and every duty's token -/

/-- The barrier cells, by device. -/
def barEmb : Dev nD ↪ GSem nD τ sig := ⟨fun c => barCell c, fun _ _ h => congrArg (fun g : GSem nD τ sig => g.1.1) h⟩
/-- Two of the kernel's own semaphores with one place are one. -/
theorem osem_inj : Function.Injective osem := fun _ _ h => dmaOf_injective (SemLoc.dma.inj h)
/-- None of the kernel's own semaphores is the barrier's. -/
theorem osem_ne_bar (k : DK) : osem k ≠ SemLoc.reg barS := fun h => by cases h
/-- The kernel's own semaphores' cells, by semaphore and device. -/
def scEmb : DK × Dev nD ↪ GSem nD τ sig :=
  ⟨fun p => dmaCell p.1 p.2, fun _ _ h => Prod.ext (osem_inj (congrArg Prod.snd h)) (congrArg (fun g : GSem nD τ sig => g.1.1) h)⟩
/-- All barrier cells. -/
abbrev barCells : Finset (GSem nD τ sig) := Finset.univ.map barEmb
/-- All cells of the kernel's own semaphores. -/
abbrev scCells : Finset (GSem nD τ sig) := Finset.univ.map scEmb

/-- No cell is of both kinds. -/
theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact osem_ne_bar p.1 (congrArg Prod.snd h)

/-- A duty of one device's semaphores: the barrier's two, a stage's four rounds, a send's, a receive's. -/
abbrev TK : Type := Bool ⊕ ((Bool × Fin 4) ⊕ ((Bool × Fin 6) ⊕ (Bool × Fin 6)))
/-- The semaphore, round and duty of a right to pay. -/
def duty : TK → SemLoc sig × ℕ × Bool
  | .inl d => (.reg barS, 0, d)
  | .inr (.inl (h, r)) => (osem (.inl h), r.val, false)
  | .inr (.inr (.inl p)) => (osem (.inr (.inl p)), 0, false)
  | .inr (.inr (.inr p)) => (osem (.inr (.inr p)), 0, false)

/-- Two rights to pay one duty are one. -/
theorem duty_inj : Function.Injective duty := by
  rintro (d | ⟨h, r⟩ | p | p) (d' | ⟨h', r'⟩ | p' | p') e
  all_goals
    have e1 := congrArg Prod.fst e
    have e2 := congrArg (fun x => x.2.1) e
    have e3 := congrArg (fun x => x.2.2) e
    dsimp only [duty] at e1 e2 e3
    first
      | exact absurd e1 (osem_ne_bar _)
      | exact absurd e1.symm (osem_ne_bar _)
      | (have := osem_inj e1; simp only [Sum.inl.injEq, Sum.inr.injEq, reduceCtorEq] at this; subst this; first | rfl | (obtain rfl := Fin.ext e2; rfl))
      | (have := osem_inj e1; simp only [Sum.inl.injEq, Sum.inr.injEq, reduceCtorEq] at this)
      | (subst e3; rfl)

/-- Every duty of every device. -/
def toks : Finset (GSem nD τ sig × ℕ × Bool) :=
  Finset.univ.map ⟨fun p : Dev nD × TK => (((p.1 : Thread nD τ), (duty p.2).1), (duty p.2).2.1, (duty p.2).2.2), fun _ _ h =>
    Prod.ext (congrArg (fun t : GSem nD τ sig × ℕ × Bool => t.1.1.1) h)
      (duty_inj (Prod.ext (congrArg (fun t : GSem nD τ sig × ℕ × Bool => t.1.2) h)
        (Prod.ext (congrArg (fun t : GSem nD τ sig × ℕ × Bool => t.2.1) h) (congrArg (fun t : GSem nD τ sig × ℕ × Bool => t.2.2) h))))⟩

/-- The launch's ghost state of the protocol. -/
def launchG : UB := launchOf barCells scCells toks

omit [FloatOps F] in
/-- Resources handed round by involutions, one per index. -/
theorem around {T : Type} [Fintype T] (σ : T → Dev nD → Dev nD) (hσ : ∀ t c, σ t (σ t c) = c) (Φ : T → Dev nD → sProp 𝕄) :
    (bigSep Finset.univ fun c : Dev nD => bigSep Finset.univ fun t => Φ t c) = bigSep Finset.univ fun c : Dev nD => bigSep Finset.univ fun t => Φ t (σ t c) := by
  rw [← bigSep_univ_prod (fun p : Dev nD × T => Φ p.2 p.1), ← bigSep_univ_prod (fun p : Dev nD × T => Φ p.2 (σ p.2 p.1))]
  exact bigSep_univ_equiv ⟨fun p : Dev nD × T => (σ p.2 p.1, p.2), fun p => (σ p.2 p.1, p.2), fun p => Prod.ext (hσ _ _) rfl, fun p => Prod.ext (hσ _ _) rfl⟩
    (fun p : Dev nD × T => Φ p.2 p.1)

/-- Every duty's token goes to the device that pays it. -/
theorem toks_deal :
    bigSep toks (fun x => (dutyTok ER x.1 x.2.1 x.2.2 : sProp 𝕄))
      ⊢ bigSep Finset.univ fun c : Dev nD => iprop((bigSep Finset.univ fun d : Bool => dutyTok ER (barCell (n1 d c)) 0 d) ∗ rights c) := by
  have e : bigSep toks (fun x => (dutyTok ER x.1 x.2.1 x.2.2 : sProp 𝕄))
      = bigSep Finset.univ fun c : Dev nD => iprop((bigSep Finset.univ fun d : Bool => dutyTok ER (barCell c) 0 d)
        ∗ (bigSep Finset.univ fun p : Bool × Fin 4 => dutyTok ER (stgCell p.1 c) p.2.val false)
        ∗ (bigSep Finset.univ fun p : Bool × Fin 6 => dutyTok ER (sndCell p.1 p.2 c) 0 false)
        ∗ (bigSep Finset.univ fun p : Bool × Fin 6 => dutyTok ER (rcvCell p.1 p.2 c) 0 false)) := by
    unfold toks; rw [bigSep_map, bigSep_univ_prod]
    exact bigSep_congr fun c _ => by rw [bigSep_univ_sum, bigSep_univ_sum, bigSep_univ_sum]; rfl
  rw [e]
  unfold rights
  simp only [bigSep_sep']
  rw [around n1 n1_n1 (fun d c => (dutyTok ER (barCell c) 0 d : sProp 𝕄)),
    around (fun p : Bool × Fin 6 => tgt p.1 p.2) (fun p c => tgt_tgt p.1 p.2 c) (fun p c => (dutyTok ER (rcvCell p.1 p.2 c) 0 false : sProp 𝕄))]

/-! ## The launch's credit -/

/-- The transfers not yet sent owe nothing to a barrier. -/
theorem debt_bar (d c : Dev nD) : ∀ l : List (Bool × Fin 6), debt d l (barCell c) () = 0
  | [] => rfl
  | p :: l => by
    show debt d l (barCell c) () + tallyAt (rcvCell p.1 p.2 (tgt p.1 p.2 d)) () NB (barCell c) () = 0
    rw [debt_bar d c l, tallyAt_apply, if_neg (fun h => osem_ne_bar _ (congrArg Prod.snd h.1).symm)]

/-- Two receive cells are one only at the same half, transfer and device. -/
theorem rcvCell_inj {h h' : Bool} {j j' : Fin 6} {c c' : Dev nD} (e : rcvCell h j c = rcvCell h' j' c') : (h, j) = (h', j') ∧ c = c' := by
  have := scEmb.injective (a₁ := ((Sum.inr (Sum.inr (h, j)) : DK), c)) (a₂ := ((Sum.inr (Sum.inr (h', j')) : DK), c')) e
  simp only [Prod.mk.injEq, Sum.inr.injEq] at this
  exact ⟨Prod.ext this.1.1 this.1.2, this.2⟩

/-- What a device owes a receive cell: one block, if the transfer is in the list and goes to the cell's device. -/
theorem debt_rcv (d c : Dev nD) (h : Bool) (j : Fin 6) : ∀ l : List (Bool × Fin 6), l.Nodup →
    debt d l (rcvCell h j c) () = if (h, j) ∈ l then (if d = tgt h j c then NB else 0) else 0
  | [], _ => rfl
  | p :: l, hl => by
    obtain ⟨hp, hl⟩ := List.nodup_cons.mp hl
    show debt d l (rcvCell h j c) () + tallyAt (rcvCell p.1 p.2 (tgt p.1 p.2 d)) () NB (rcvCell h j c) () = _
    rw [debt_rcv d c h j l hl]
    by_cases e : (h, j) = p
    · subst e
      rw [tallyAt_apply, if_neg hp, if_pos List.mem_cons_self, Nat.zero_add]
      by_cases hd : d = tgt h j c
      · subst hd; rw [if_pos rfl, if_pos ⟨by rw [tgt_tgt], rfl⟩]
      · rw [if_neg hd, if_neg (fun hh => hd (by rw [(rcvCell_inj hh.1).2, tgt_tgt]))]
    · have hz : (tallyAt (rcvCell p.1 p.2 (tgt p.1 p.2 d)) () NB : CellTallies nD τ sig Unit) (rcvCell h j c) () = 0 := by
        rw [tallyAt_apply, if_neg (fun hh => e (rcvCell_inj hh.1).1)]
      rw [hz, Nat.add_zero]
      by_cases hm : (h, j) ∈ l
      · rw [if_pos hm, if_pos (List.mem_cons_of_mem _ hm)]
      · rw [if_neg hm, if_neg (fun hh => (List.mem_cons.mp hh).elim e hm)]

/-- What a device owes a cell at the start: transfers, and a unit for each neighbour's barrier. -/
theorem O₀_apply (d : Dev nD) (g : GSem nD τ sig) :
    O₀ d g () = debt d sends g () + tallyAt (barCell (n1 true d)) () 1 g () + tallyAt (barCell (n1 false d)) () 1 g () := rfl

/-- A device owes a barrier cell one unit for each way in which it is the cell's device's neighbour. -/
theorem owed_bar (d c : Dev nD) : O₀ d (barCell c) () = (if d = n1 true c then 1 else 0) + (if d = n1 false c then 1 else 0) := by
  have hb (h : Bool) : (tallyAt (barCell (n1 h d)) () 1 : CellTallies nD τ sig Unit) (barCell c) () = if d = n1 h c then 1 else 0 := by
    rw [tallyAt_apply]
    by_cases e : d = n1 h c
    · subst e; rw [n1_n1, if_pos ⟨rfl, rfl⟩, if_pos rfl]
    · rw [if_neg e, if_neg (fun hh => e (by rw [show c = n1 h d from congrArg (fun g : GSem nD τ sig => g.1.1) hh.1, n1_n1]))]
  rw [O₀_apply, debt_bar, hb, hb, Nat.zero_add]

/-- A device owes a receive cell one block, if it is the sender. -/
theorem owed_rcv (d c : Dev nD) (h : Bool) (j : Fin 6) : O₀ d (rcvCell h j c) () = if d = tgt h j c then NB else 0 := by
  have hz (h' : Bool) : (tallyAt (barCell (n1 h' d)) () 1 : CellTallies nD τ sig Unit) (rcvCell h j c) () = 0 := by
    rw [tallyAt_apply, if_neg (fun hh => osem_ne_bar _ (congrArg Prod.snd hh.1))]
  rw [O₀_apply, debt_rcv d c h j sends (by decide), if_pos (show (h, j) ∈ sends by clear hz; revert h j; decide), hz, hz, Nat.add_zero]

/-- All devices together owe a barrier cell two units. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (n1 true c) fun _ => 1, Finset.sum_ite_eq' Finset.univ (n1 false c) fun _ => 1, if_pos (Finset.mem_univ _), if_pos (Finset.mem_univ _)]

/-- All devices together owe a receive cell one block. -/
theorem launch_rcv (c : Dev nD) (h : Bool) (j : Fin 6) :
    tallyOn (rcvCell h j c) (launchCredit (Pipeline.owing O₀) 0 (rcvCell h j c)) = (tallyAt (rcvCell h j c) () NB : CellTallies nD τ sig Unit) := by
  unfold tallyAt; refine congrArg _ (Finsupp.ext fun u => ?_); cases u
  rw [Pipeline.launchCredit_owing, Finsupp.single_eq_same, Finset.sum_congr rfl fun d _ => owed_rcv d c h j,
    Finset.sum_ite_eq' Finset.univ (tgt h j c) fun _ => NB, if_pos (Finset.mem_univ _)]

/-- The receive semaphores, by half and transfer. -/
def rcvEmb : Bool × Fin 6 ↪ SemLoc sig :=
  ⟨fun p => osem (.inr (.inr p)), fun _ _ h => Sum.inr.inj (Sum.inr.inj (osem_inj h))⟩

/-- A device's launch credit is its barrier's two units and what arrives at it. -/
theorem creds (c : Dev nD) : (Pipeline.launchCred O₀ c : sProp 𝕄) ⊢ iprop(cred (tallyAt (barCell c) () 2) ∗ arrivals c) := by
  unfold Pipeline.launchCred arrivals
  rw [bigSep_univ_at _ (SemLoc.reg barS), launch_bar]
  refine sep_mono_right ?_
  refine (bigSep_subset (t := Finset.univ.map rcvEmb) (fun sm hsm => ?_)).trans ?_
  · obtain ⟨p, -, rfl⟩ := Finset.mem_map.mp hsm
    exact Finset.mem_erase.mpr ⟨osem_ne_bar _, Finset.mem_univ _⟩
  · rw [bigSep_map]
    exact bigSep_mono fun p _ => Entails.of_eq (congrArg cred (launch_rcv c p.1 p.2))

end Cert.KernelIdeal.AllReduce
-- ==== Proof.KI.Region.lean ====
module

public import proofs.«01_k».proof.Proof.KI.Ghost
public import proofs.«01_k».proof.Proof.Gen.KernelIdeal

@[expose] public section

noncomputable section

namespace Cert.KernelIdeal.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The contents of a device's buffers, from the launch to the end -/

/-- At the launch. -/
abbrev V₀ (c : Dev nD) : Valuation τ sig (Elt F) := fun b => m (c, b)
/-- When the kernel is entered: the argument reshaped. -/
abbrev V₁ (c : Dev nD) : Valuation τ sig (Elt F) := StableHlo.after hostOps0 (V₀ m c)
/-- The array each device's kernel reads. -/
def XA (c : Dev nD) : S4096x2048.Idx → Elt F .f32 := V₁ m c (Proc.devRef .tc main_v1)

/-! ## The pipeline's proof data -/

/-- Before the kernel's one point. -/
def Φ₀ (c : Dev nD) : sProp 𝕄 :=
  iprop(Xk (XA m) c ∗ (any c xbM ∗ any c stM ∗ any c rvM ∗ owns (c : Thread nD τ) xM fullShare (XA m c)) ∗ ∃ r, prngReg c r)
/-- After it. -/
def Φ₁ (c : Dev nD) : sProp 𝕄 :=
  iprop(semVal (barCell c) 0 ∗ (halfZero false c ∗ halfZero true c) ∗ (any c xbM ∗ any c stM ∗ any c rvM ∗ owns (c : Thread nD τ) xM fullShare (XA m c)) ∗ ∃ r, prngReg c r)

/-- The one point's data: the result's window ends with the result, and all that is owed is paid. -/
def dat0 (c : Dev nD) : Dat τ (Elt F) Unit ℕ UU ℕ cfg0 c where
  A w := V₁ m c (Proc.devRef .tc (Pipeline.arrRef spec0 w))
  after | ⟨0, _⟩, _ => RES (XA m)
  Φ t := if t.val = 0 then Φ₀ m c else Φ₁ m c
  q _ := fullShare
  owed t := if t.val = 0 then O₀ c else 0

/-- The pipeline's configuration is admissible. -/
abbrev adm : (p : Fin 1) → (pcfgs (F := F) p).Adm := fun p => (cfgs p).toPCfg_adm
/-- The data of the program's one call. -/
def pdats : (p : Fin 1) → (c : Dev nD) → Dat τ (Elt F) Unit ℕ UU ℕ (Pipeline.pin (pcfgs (F := F)) adm p) c
  | ⟨0, _⟩ => dat0 m

/-- What is owed at a point. -/
theorem owed_at (c : Dev nD) (t : Fin (cfg0.N + 1)) : (dat0 m c).owed t = if t.val = 0 then O₀ c else 0 := rfl
/-- What a device holds at a point. -/
theorem Φ_at (c : Dev nD) (t : Fin (cfg0.N + 1)) : (dat0 m c).Φ t = if t.val = 0 then Φ₀ m c else Φ₁ m c := rfl
/-- At the entry everything is owed. -/
theorem owed_entry (c : Dev nD) : (dat0 m c).owed 0 = O₀ c := (owed_at m c _).trans (if_pos rfl)
/-- Before the one point everything is owed. -/
theorem owed_before (c : Dev nD) : (dat0 m c).owed t0_0.castSucc = O₀ c := (owed_at m c _).trans (if_pos rfl)
/-- At the exit nothing is owed. -/
theorem owed_exit (c : Dev nD) : (dat0 m c).owed (Fin.last _) = 0 := by
  show (if (Fin.last cfg0.N).val = 0 then O₀ c else 0) = 0
  rw [Fin.val_last, if_neg (by rw [show cfg0.N = 1 from N_0]; decide)]
/-- After the one point nothing is owed. -/
theorem owed_after (c : Dev nD) : (dat0 m c).owed t0_0.succ = 0 := (owed_at m c _).trans (if_neg (Nat.succ_ne_zero _))
/-- What a device holds before the one point. -/
theorem Φ_before (c : Dev nD) : (dat0 m c).Φ t0_0.castSucc = Φ₀ m c := (Φ_at m c _).trans (if_pos rfl)
/-- What it holds after the one point. -/
theorem Φ_after (c : Dev nD) : (dat0 m c).Φ t0_0.succ = Φ₁ m c := (Φ_at m c _).trans (if_neg (Nat.succ_ne_zero _))
/-- What it holds at the exit. -/
theorem Φ_exit (c : Dev nD) : (dat0 m c).Φ (Fin.last _) = Φ₁ m c := by
  show (if (Fin.last cfg0.N).val = 0 then Φ₀ m c else Φ₁ m c) = Φ₁ m c
  rw [Fin.val_last, if_neg (by rw [show cfg0.N = 1 from N_0]; decide)]

/-- What a core owes enters and leaves the pipeline's form of it. -/
theorem owing_in (c : Dev nD) (t : Fin (cfg0.N + 1)) (O : CellTallies nD τ sig Unit) (h : (dat0 m c).owed t = O) :
    (iprop(∃ W, owes (c : Thread nD τ) O W) : sProp 𝕄) ⊢ (dat0 m c).owesAt () t := by
  unfold Dat.owesAt Pipeline.owesWithin Dat.bound; rw [h]
  iintro ⟨%W, HO⟩; iexists W; isplitr; · ipureintro; exact fun _ _ => Or.inl trivial
  iexact HO
/-- What the point's data says is owed is owed. -/
theorem owing_out (c : Dev nD) (t : Fin (cfg0.N + 1)) (O : CellTallies nD τ sig Unit) (h : (dat0 m c).owed t = O) :
    (dat0 m c).owesAt () t ⊢ (iprop(∃ W, owes (c : Thread nD τ) O W) : sProp 𝕄) := by
  unfold Dat.owesAt Pipeline.owesWithin; rw [h]
  iintro ⟨%W, -, HO⟩; iexists W; iexact HO

/-! ## The kernel's body at its one point -/

/-- One device's run, from the protocol's state and its buffers whole. -/
theorem run_whole (c : Dev nD) (Q : PUnit → sProp 𝕄) :
    iprop(Φ₀ m c ∗ (∃ W, owes (c : Thread nD τ) (O₀ c) W) ∗ any c outM
        ∗ ((Φ₁ m c ∗ (∃ W, owes (c : Thread nD τ) (0 : CellTallies nD τ sig Unit) W) ∗ owns (c : Thread nD τ) outM fullShare (RES (XA m))) -∗ Q ⟨⟩))
      ⊢ wp frame (wpE (defs₀ (F := F)) 𝒱₀ c none) Set.univ (bodyAt0 (F := F) t0_0) Q := by
  unfold Φ₀ Xk
  iintro ⟨⟨⟨⟨%K, HR⟩, Hlev, Hb, HgA, HgB⟩, ⟨Hw, Hs, Hr, Hx⟩, Hp⟩, HO, Ho, Hk⟩
  ihave Hm := (mem_split (XA m) c) $$ [Hw Hs Hr Hx Ho]
  · unfold memIn
    isplitl [Hx]; · iexact Hx
    isplitl [Hw]; · iexact Hw
    isplitl [Hs]; · iexact Hs
    isplitl [Hr]; · iexact Hr
    iexact Ho
  icases Hm with ⟨HmA, HmB⟩
  iapply (run (XA m) K c Q)
  isplitr [Hk Hp]
  · unfold bodyPre
    isplitl [HR]; · iexact HR
    isplitl [Hlev]; · iexact Hlev
    isplitl [Hb]; · iexact Hb
    isplitl [HgA]; · iexact HgA
    isplitl [HgB]; · iexact HgB
    isplitl [HmA]; · iexact HmA
    isplitl [HmB]; · iexact HmB
    iexact HO
  iintro Hpost
  unfold bodyPost
  icases Hpost with ⟨Hb, HzA, HzB, HeA, HeB, HO⟩
  ihave Hm := (mem_join (XA m) c) $$ [HeA HeB]
  · isplitl [HeA] <;> iassumption
  unfold memOut
  icases Hm with ⟨Hx, Hw, Hs, Hr, Ho⟩
  iapply Hk
  isplitr [HO Ho]
  · unfold Φ₁
    isplitl [Hb]; · iexact Hb
    isplitl [HzA HzB]; · isplitl [HzA] <;> iassumption
    isplitl [Hw Hs Hr Hx]
    · isplitl [Hw]; · iexact Hw
      isplitl [Hs]; · iexact Hs
      isplitl [Hr]; · iexact Hr
      iexact Hx
    iexact Hp
  isplitl [HO]
  · iapply (show owing c [] ⊢ (iprop(∃ W, owes (c : Thread nD τ) (0 : CellTallies nD τ sig Unit) W) : sProp 𝕄) from .rfl) $$ HO
  iexact Ho

/-- What the kernel's one point starts with. -/
def obIn (c : Dev nD) : sProp 𝕄 :=
  iprop(Φ₀ m c ∗ (dat0 m c).owesAt () t0_0.castSucc ∗ ∃ d, owns (c : Thread nD τ) outM fullShare ((dat0 m c).before (0 : Fin 1) t0_0 d))
/-- What it ends with. -/
def obOut (c : Dev nD) : sProp 𝕄 :=
  iprop(Φ₁ m c ∗ (dat0 m c).owesAt () t0_0.succ ∗ owns (c : Thread nD τ) outM fullShare (RES (XA m)))

/-- The one point runs from the first to the second. -/
theorem body_ob (c : Dev nD) : obIn m c ⊢ wp frame (wpE (defs₀ (F := F)) 𝒱₀ c none) Set.univ (bodyAt0 (F := F) t0_0) fun _ => obOut m c := by
  unfold obIn obOut
  iintro ⟨HΦ, HO, ⟨%d, Ho⟩⟩
  iapply (run_whole m c fun _ => iprop(Φ₁ m c ∗ (dat0 m c).owesAt () t0_0.succ ∗ owns (c : Thread nD τ) outM fullShare (RES (XA m))))
  isplitl [HΦ]; · iexact HΦ
  isplitl [HO]; · iapply (owing_out m c _ _ (owed_before m c)) $$ HO
  isplitl [Ho]; · iapply (any_intro c outM _) $$ Ho
  iintro ⟨HΦ, HO, Ho⟩
  isplitl [HΦ]; · iexact HΦ
  isplitl [HO]; · iapply (owing_in m c _ _ (owed_after m c)) $$ HO
  iexact Ho

/-- The kernel meets the pipeline's obligation. -/
theorem body (c : Dev nD) : BodyObligation (dat0 (F := F) m c) defs₀ 𝒱₀ () Set.univ := fun t => by
  obtain rfl := fin_N0 t
  rw [bigSep_W0, bigSep_W0, Φ_before, Φ_after]
  exact body_ob m c

/-! ## The buffers -/

/-- The buffers of a device that outlive the kernel. -/
def bufs : Finset (DevRef τ sig) := (StableHlo.tcRefs τ sig).filter fun b => ¬ b.isScoped

/-- A device's buffers are the three arrays of the program. -/
theorem unscopedBufs_held (c : Dev nD) (W : Valuation τ sig (Elt F)) :
    (unscopedBufs c (fun b => W b) : sProp 𝕄) = StableHlo.held (c : Thread nD τ) bufs W := by
  unfold unscopedBufs StableHlo.held bufs StableHlo.tcRefs
  rw [Finset.filter_map, BI.bigSep_map]
  rfl
/-- One buffer held whole. -/
abbrev pt (c : Dev nD) (b : Ref sig .tc) (W : Valuation τ sig (Elt F)) : sProp 𝕄 :=
  (c : Thread nD τ).loc b ↦{fullShare} (W (Proc.devRef .tc b))
/-- They are the argument, the reshaped argument and the result, one by one. -/
theorem bufs_eq (c : Dev nD) (W : Valuation τ sig (Elt F)) : (StableHlo.held (c : Thread nD τ) bufs W : sProp 𝕄)
    = iprop(pt c main_arg0 W ∗ pt c main_v1 W ∗ pt c main_v2 W) := by
  unfold StableHlo.held
  rw [bigSep_eq_bigSepL_of_eq [Proc.devRef .tc main_arg0, Proc.devRef .tc main_v1, Proc.devRef .tc main_v2] (by decide) (by decide)]
  rfl
/-- One buffer held is that buffer. -/
theorem one_eq (c : Dev nD) (b : Ref sig .tc) (W : Valuation τ sig (Elt F)) :
    (StableHlo.held (c : Thread nD τ) {Proc.devRef .tc b} W : sProp 𝕄) = pt c b W := by
  unfold StableHlo.held; rw [BI.bigSep_singleton]
/-- The argument and the reshaped argument. -/
abbrev Sr : Finset (DevRef τ sig) := {Proc.devRef .tc main_arg0, Proc.devRef .tc main_v1}
/-- The reshaped argument, which the kernel reads where it lies. -/
abbrev Hs : Finset (DevRef τ sig) := {Proc.devRef .tc main_v1}
/-- The two buffers, one by one. -/
theorem Sr_eq (c : Dev nD) (W : Valuation τ sig (Elt F)) :
    (StableHlo.held (c : Thread nD τ) Sr W : sProp 𝕄) = iprop(pt c main_arg0 W ∗ pt c main_v1 W) := by
  unfold StableHlo.held
  rw [bigSep_eq_bigSepL_of_eq [Proc.devRef .tc main_arg0, Proc.devRef .tc main_v1] (by decide) (by decide)]
  rfl
/-- The one array that the pipeline moves is the result. -/
theorem arr_refs : Pipeline.arrRefs (τ := τ) (pcfgs (F := F) 0).spec = {Proc.devRef .tc main_v2} := by
  show Pipeline.arrRefs (τ := τ) spec0 = _
  decide

/-- After the kernel: the result array is what the pipeline writes back. -/
def V₂ (c : Dev nD) : Valuation τ sig (Elt F) := Function.update (V₁ m c) (Proc.devRef .tc main_v2) ((dat0 m c).arrAt (0 : Fin 1) cfg0.N)

/-- The kernel changes no buffer but the result. -/
theorem V₂_ne (c : Dev nD) (b : DevRef τ sig) (h : b ≠ Proc.devRef .tc main_v2) : V₂ m c b = V₁ m c b := Function.update_of_ne h _ _

/-- The result array is written back whole. -/
theorem V₂_v2 (c : Dev nD) : V₂ m c (Proc.devRef .tc main_v2) = RES (XA m) := by
  unfold V₂
  rw [Function.update_self]
  have hz : (fun a => (win0_0.index (0 : Fin 1)) a * main_v2.ty.shape.size a) = fun _ => 0 := funext fun a => by fin_cases a <;> decide
  have hr := Memref.read_access_unit_zero (Elt F) main_v2 hz (fun a => by fin_cases a <;> decide) ((dat0 m c).arrAt (0 : Fin 1) cfg0.N)
  refine hr.symm.trans ?_
  show (win0_0.blk t0_0).view.read (Elt F) ((dat0 m c).arrAt (0 : Fin 1) cfg0.N) = RES (XA m)
  rw [show cfg0.N = t0_0.val + 1 from N_0, (dat0 m c).arrAt_succ (0 : Fin 1) t0_0, if_pos (flush0_0 t0_0)]
  exact View.read_write_univ _ _

/-- The reshape leaves the argument as it was. -/
theorem V₁_arg0 (c : Dev nD) : V₁ m c (Proc.devRef .tc main_arg0) = m ((c : Thread nD τ).loc main_arg0) := V_main_arg0 m c

/-- A block of a buffer at contents not named, for the whole of it. -/
theorem any_whole (c : Dev nD) (b : Ref sig .tc) :
    (any c (Memref.whole b) : sProp 𝕄) = iprop(∃ f : Buf (Elt F) ((c : Thread nD τ).loc b), (c : Thread nD τ).loc b ↦{fullShare} f) := by
  rw [any_eq]; simp only [Memref.view_whole, View.set_whole]

/-! ## The region -/

/-- The facts of the launch. -/
theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- What is owed at any time sits above the staging semaphore. -/
theorem owed_above {c : Dev nD} {g : GSem nD τ sig} {u : Unit} (h : 0 < O₀ c g u) : u ∈ L g ∧ 0 < lv g u := by
  have h' : 0 < debt c sends g () + tallyAt (barCell (n1 true c)) () 1 g () + tallyAt (barCell (n1 false c)) () 1 g () := h
  by_cases hb : ∃ d, g = barCell d
  · obtain ⟨d, rfl⟩ := hb
    exact ⟨by rw [L_tc]; exact Finset.mem_singleton_self _, Nat.one_pos⟩
  · rw [tallyAt_apply, if_neg (fun e => hb ⟨_, e.1⟩), tallyAt_apply, if_neg (fun e => hb ⟨_, e.1⟩)] at h'
    obtain ⟨p, hp, rfl⟩ := debt_pos c g sends h'
    refine ⟨by rw [L_tc]; exact Finset.mem_singleton_self _, ?_⟩
    rw [lv_dma]
    exact (show ∀ p ∈ sends, 0 < lvK (.inr (.inr p)) by decide) p hp

/-- Everything owed is owed above the lowest level. -/
theorem cut (c : Dev nD) (t : Fin (cfg0.N + 1)) (g : GSem nD τ sig) (u : Unit) (h : 0 < (dat0 m c).owed t g u) : u ∈ L g ∧ (0 : ℕ) < lv g u := by
  have e : (dat0 m c).owed t = if t.val = 0 then O₀ c else 0 := rfl
  rw [e] at h
  split at h
  · exact owed_above h
  · exact absurd h (Nat.lt_irrefl 0)

/-- What the call is given is what the kernel starts with. -/
theorem hin (c : Dev nD) : iprop(Pipeline.scopedRest spec0 c ∗ (∃ r, prngReg c r) ∗ StableHlo.held (c.tc : Thread nD τ) Hs (V₁ m c) ∗ Xk (XA m) c)
    ⊢ Φ₀ m c := by
  rw [scopedRest0_eq, one_eq, ← any_whole, ← any_whole, ← any_whole, show (pt c main_v1 (V₁ m c) : sProp 𝕄) = owns (c : Thread nD τ) xM fullShare (XA m c) from (owns_whole _ _ _ _).symm]
  unfold Φ₀
  iintro ⟨⟨Hw, Hs, Hr⟩, Hp, Hx, HX⟩
  isplitl [HX]; · iexact HX
  isplitr [Hp]
  · isplitl [Hw]; · iexact Hw
    isplitl [Hs]; · iexact Hs
    isplitl [Hr] <;> iassumption
  iexact Hp

/-- What the kernel ends with is what the call gives back, every counter at zero. -/
theorem hout (c : Dev nD) : Φ₁ m c
    ⊢ iprop(Pipeline.scopedRest spec0 c ∗ (∃ r, prngReg c r) ∗ StableHlo.held (c.tc : Thread nD τ) Hs (V₂ m c) ∗ Pipeline.ownSems0 osem c ∗ semVal (barCell c) 0) := by
  rw [scopedRest0_eq, one_eq, ← any_whole, ← any_whole, ← any_whole,
    show (pt c main_v1 (V₂ m c) : sProp 𝕄) = owns (c : Thread nD τ) xM fullShare (XA m c) from
      (congrArg (fun f => ((c : Thread nD τ).loc main_v1 ↦{fullShare} f : sProp 𝕄)) (V₂_ne m c (Proc.devRef .tc main_v1) (by decide))).trans (owns_whole _ _ _ _).symm]
  unfold Φ₁
  iintro ⟨Hb, Hz, ⟨Hw, Hs, Hr, Hx⟩, Hp⟩
  isplitl [Hw Hs Hr]
  · isplitl [Hw]; · iexact Hw
    isplitl [Hs] <;> iassumption
  isplitl [Hp]; · iexact Hp
  isplitl [Hx]; · iexact Hx
  isplitl [Hz]; · iapply (zeros c) $$ Hz
  iexact Hb

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

set_option backward.isDefEq.respectTransparency.types false in
/-- The kernel, talking to the other devices. -/
def reg0 : ℝ𝕊 0 :=
  Pipeline.RegionSeg.ofTalk (pcfgs (F := F)) adm (pdats m) () defs₀ 𝒱₀ L lv 0 osem (by decide : Pipeline.OwnSemFacts spec0 osem)
    Hs Sr (by decide) kit rfl (fun c => (body m c).loose)
    (fun _ => 0) O₀ (fun c => (owed_entry m c).trans (zero_add _).symm) (owed_exit m) (fun _ => rfl)
    (fun _ w => by unfold Dat.share; split <;> rfl)
    (V₁ m) (V₂ m) (fun c b hb => V₂_ne m c b (by revert b; decide))
    (Tk (XA m)) (fun c => semVal (barCell c) 0) (Xk (XA m)) (fun c => semVal (barCell c) 0) (hopen (XA m)) (hin m) (fun c => (Entails.of_eq (Φ_exit m c)).trans (hout m c))
    (fun c => by iintro H; imodintro; iexact H)
    (fun _ => 0)
    ⟨fun c w s => by rw [L_tc]; exact Finset.mem_singleton_self _, fun c w s => by fin_cases w; fin_cases s; exact Nat.le_of_eq rfl, cut m⟩
    (fun _ => iprop(emp))
    (fun _ _ => rfl) (fun c w => by fin_cases w; exact (Function.update_self (Proc.devRef .tc main_v2) ((dat0 m c).arrAt (0 : Fin 1) cfg0.N) (V₁ m c)).symm)

/-! ## The program's two segments -/

/-- What rides beside the buffers up to the kernel. -/
def R (c : Dev nD) : sProp 𝕄 := iprop(Tk (XA m) c ∗ (∃ r, prngReg c r) ∗ ∃ W, owes (c : Thread nD τ) (O₀ c) W)

/-- The reshape touches the program's arrays only. -/
theorem ops_sub : ∀ op ∈ (hostOps0 : List (HloOp τ sig (Elt F))), op.bufs ⊆ bufs := fun op h => by
  simp only [hostOps0, List.mem_singleton] at h; subst h
  show ({Proc.devRef .tc main_arg0, Proc.devRef .tc main_v1} : Finset (DevRef τ sig)) ⊆ bufs; decide

/-- The reshape. -/
def seg0 : ℍ := Pipeline.HostSeg.ofOps _ _ _ _ _ bufs hostOps0 ops_sub (List.forall_iff_forall_mem.mp hostOps0_fresh) (V₀ m) (R m)

/-- The arrays after the reshape and the launch's ghost state are what the call takes. -/
theorem reg0_pre (c : Dev nD) : iprop(StableHlo.held (c : Thread nD τ) bufs (V₁ m c) ∗ R m c) ⊢ (reg0 m).pre c := by
  show _ ⊢ iprop(StableHlo.held (c.tc : Thread nD τ) (Pipeline.arrRefs (τ := τ) (pcfgs (F := F) 0).spec) (V₁ m c) ∗ (∃ r, prngReg c r)
    ∗ (StableHlo.held (c.tc : Thread nD τ) Sr (V₁ m c) ∗ emp) ∗ Tk (XA m) c ∗ ∃ Wd, owes (c : Thread nD τ) (0 + O₀ c) Wd)
  rw [arr_refs, one_eq, Sr_eq, bufs_eq, zero_add]
  unfold R
  iintro ⟨⟨Ha, Hx, Hr⟩, HT, Hp, HO⟩
  isplitl [Hr]; · iexact Hr
  isplitl [Hp]; · iexact Hp
  isplitl [Ha Hx]
  · isplitl [Ha Hx]; · isplitl [Ha] <;> iassumption
    iempintro
  isplitl [HT] <;> iassumption

/-- What the call leaves is the arrays with the result in place, the barrier's counter at zero and nothing owed. -/
theorem reg0_post (c : Dev nD) : (reg0 m).post c
    ⊢ iprop((StableHlo.held (c : Thread nD τ) bufs (V₂ m c) ∗ semVal (barCell c) 0) ∗ ∃ W, owes (c : Thread nD τ) (0 : CellTallies nD τ sig Unit) W) := by
  show iprop(StableHlo.held (c.tc : Thread nD τ) (Pipeline.arrRefs (τ := τ) (pcfgs (F := F) 0).spec) (V₂ m c) ∗ (∃ r, prngReg c r)
    ∗ (StableHlo.held (c.tc : Thread nD τ) Sr (V₂ m c) ∗ emp) ∗ semVal (barCell c) 0 ∗ ∃ Wd, owes (c : Thread nD τ) (0 : CellTallies nD τ sig Unit) Wd) ⊢ _
  rw [arr_refs, one_eq, Sr_eq, bufs_eq]
  iintro ⟨Hr, -, ⟨⟨Ha, Hx⟩, -⟩, Hb, HO⟩
  isplitr [HO]
  · isplitr [Hb]
    · isplitl [Ha]; · iexact Ha
      isplitl [Hx] <;> iassumption
    iexact Hb
  iexact HO

/-- The program as its two segments. -/
def segs : List (Pipeline.Seg (pcfgs (F := F)) adm (pdats m) () defs₀ 𝒱₀ L lv) := [.host (seg0 m), .region (reg0 m)]

/-- The program is the reshape and then the call. -/
theorem main_eq (c : Dev nD) : main (F := F) c = Pipeline.Seg.run (segs m) := main_segs adm (pdats m) () 𝒱₀ L lv (seg0 m) (reg0 m) rfl c

end Cert.KernelIdeal.AllReduce
-- ==== Proof.KI.Launch.lean ====
module

public import proofs.«01_k».proof.Proof.KI.Region

@[expose] public section

noncomputable section

namespace Cert.KernelIdeal.AllReduce

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Dealing the launch's ghost state -/

/-- The one semaphore that outlives the kernel is the barrier's. -/
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- The launch's element: the pipeline's staging cells and the protocol's. -/
def u₀ : UU :=
  (initOf (Pipeline.cells (Pipeline.pin (pcfgs (F := F)) adm) cellOf_inj) (Pipeline.launchToks (Pipeline.pin (pcfgs (F := F)) adm) cellOf_inj), launchG)

/-- The protocol's launch element waits on device 0 for the global step. -/
def G (c : Dev nD) : sProp 𝕄 := if c = 0 then BI.own (ER launchG) else iprop(emp)

/-- All devices' parts of the launch element are the protocol's. -/
theorem G_all : (bigSep Finset.univ fun c : Dev nD => (G c : sProp 𝕄)) = BI.own (ER launchG) := by
  rw [bigSep_univ_at _ (0 : Dev nD), bigSep_congr (s := Finset.univ.erase (0 : Dev nD)) (Ψ := fun _ => (BI.emp : sProp 𝕄))
    fun c hc => by unfold G; rw [if_neg (Finset.ne_of_mem_erase hc)]; rfl, BI.bigSep_emp_const]
  unfold G; rw [if_pos rfl]
  exact BI.equiv_iff.mp sep_emp

/-- The invariants of all cells are the records a device consults. -/
theorem recs_intro (X : Dev nD → S4096x2048.Idx → Elt F .f32) (K : GSem nD τ sig → ℕ) :
    (bigSep (barCells ∪ scCells) fun g => (cellInv ER (arRd X) (K g) g : sProp 𝕄)) ⊢ recs X K := by
  rw [bigSep_union disjoint_cells, bigSep_map, bigSep_map]
  exact .rfl

/-- What every device knows: the invariants, and that each barrier semaphore is in its first round. -/
def known (K : GSem nD τ sig → ℕ) : sProp 𝕄 := iprop(recs (XA m) K ∗ bigSep Finset.univ fun c : Dev nD => reached ER (barCell c) 0)
/-- What every device knows may be used any number of times. -/
instance known_persistent (K : GSem nD τ sig → ℕ) : BI.Persistent (known m K) := by unfold known; infer_instance

/-- What of the protocol's state is one device's. -/
def part (c : Dev nD) : sProp 𝕄 :=
  iprop(atPos ER (barCell c) 0 ∅ 0 ∗ dormant c ∗ ((bigSep Finset.univ fun d : Bool => dutyTok ER (barCell (n1 d c)) 0 d) ∗ rights c))
/-- And what it holds beside the protocol's state. -/
def rest (c : Dev nD) : sProp 𝕄 :=
  iprop(StableHlo.held (c : Thread nD τ) bufs (V₀ m c) ∗ (cred (tallyAt (barCell c) () 2) ∗ arrivals c) ∗ owes (c : Thread nD τ) (O₀ c) ∅ ∗ ∃ r, prngReg c r)

/-- What a device starts the program with. -/
abbrev T₀ (c : Dev nD) : sProp 𝕄 := iprop(StableHlo.held (c : Thread nD τ) bufs (V₀ m c) ∗ R m c)
/-- What it ends the program with. -/
abbrev Tₙ (c : Dev nD) : sProp 𝕄 := iprop(StableHlo.held (c : Thread nD τ) bufs (V₂ m c) ∗ semVal (barCell c) 0)

/-- From all barriers' being in their first round, one's. -/
theorem reached_bar (c : Dev nD) : (bigSep Finset.univ fun c : Dev nD => (reached ER (barCell c) 0 : sProp 𝕄)) ⊢ (reached ER (barCell c) 0 : sProp 𝕄) :=
  bigSep_elim (Finset.mem_univ c)

/-- What every device knows, and what it is dealt, are what it starts the program with. -/
theorem T₀_intro (K : GSem nD τ sig → ℕ) (c : Dev nD) : iprop(known m K ∗ (part c ∗ rest m c)) ⊢ T₀ m c := by
  unfold known part rest T₀ R Tk barGhost
  rw [two_eq]
  iintro ⟨⟨#HR, #Hr⟩, ⟨Hat, Hd, ⟨⟨tA, tB⟩, Hrt⟩⟩, Hh, ⟨Hc, Ha⟩, HO, Hp⟩
  isplitl [Hh]; · iexact Hh
  isplitr [HO Hp]
  · isplitr; · iexists K; iexact HR
    isplitl [Hat Hc tA tB]
    · isplitl [Hat]; · iexact Hat
      isplitl [Hc]; · iexact Hc
      isplitl [tA]
      · isplitl [tA]; · iexact tA
        iapply (reached_bar (n1 false c)) $$ Hr
      · isplitl [tB]; · iexact tB
        iapply (reached_bar (n1 true c)) $$ Hr
    isplitl [Hd]; · iexact Hd
    isplitl [Hrt]; · iexact Hrt
    iexact Ha
  isplitl [Hp]; · iexact Hp
  iexists ∅; iexact HO

/-- The rights to open, device by device. -/
theorem dormant_deal : bigSep scCells (fun g => (openTok ER g : sProp 𝕄)) = bigSep Finset.univ fun c : Dev nD => (dormant c : sProp 𝕄) := by
  rw [bigSep_map]
  exact (bigSep_univ_equiv (Equiv.prodComm (Dev nD) DK) (fun p : DK × Dev nD => (openTok ER (dmaCell p.1 p.2) : sProp 𝕄))).trans
    (bigSep_univ_prod (fun p : Dev nD × DK => (openTok ER (dmaCell p.2 p.1) : sProp 𝕄)))

/-- From the launch: the cells' invariants made, and every device given its part. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have one (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(rest m c ∗ (semVal (barCell c) 0 ∗ G c)) : sProp 𝕄) := by
    rw [show unscopedBufs c (fun b => m ((c : Thread nD τ).loc b)) = StableHlo.held (c : Thread nD τ) bufs (V₀ m c) from unscopedBufs_held c (V₀ m c),
      unscopedSems0_eq]
    unfold rest
    iintro ⟨Hh, Hz, HO, Hcr, Hp, HG⟩
    isplitr [Hz HG]
    · isplitl [Hh]; · iexact Hh
      isplitl [Hcr]; · iapply (creds (F := F) c) $$ Hcr
      isplitl [HO]; · iexact HO
      iexists (ρ c); iexact Hp
    isplitl [Hz] <;> iassumption
  have bars (Φ : GSem nD τ sig → sProp 𝕄) : bigSep barCells Φ = bigSep Finset.univ fun c : Dev nD => Φ (barCell c) := bigSep_map barEmb
  iintro ⟨H, -⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (iprop((bigSep Finset.univ fun c : Dev nD => rest m c) ∗ (bigSep Finset.univ fun c : Dev nD => semVal (barCell c) 0) ∗ BI.own (ER launchG)) : sProp 𝕄) from by
        rw [← G_all, ← bigSep_sep', ← bigSep_sep']
        exact bigSep_mono fun c _ => one c) $$ H
  icases H with ⟨HB, Hv, Hu⟩
  imod (Rounds.fund_launch ER (arRd (XA m)) disjoint_cells (fun g _ h => h) toks) $$ [Hv Hu] with ⟨%K, -, #Hinv, #Hr, Hat, Hopen, Htok⟩
  · isplitl [Hv]
    · iapply (Entails.of_eq (bars fun g => semVal g 0).symm) $$ Hv
    · iapply (show (BI.own (ER launchG) : sProp 𝕄) ⊢ BI.own (ER (launchOf barCells scCells toks)) from .rfl) $$ Hu
  imodintro
  iapply (bigSep_with_persistent (R := known m K) (Φ := fun c => iprop(part c ∗ rest m c)) fun c _ => T₀_intro m K c)
  isplitr
  · unfold known
    isplitr; · iapply (recs_intro (XA m) K) $$ Hinv
    iapply (Entails.of_eq (bars fun g => reached ER g 0)) $$ Hr
  ihave Hat := (Entails.of_eq (bars fun g => atPos ER g 0 ∅ 0)) $$ Hat
  ihave Hopen := (Entails.of_eq (dormant_deal (F := F))) $$ Hopen
  ihave Htok := (toks_deal (F := F)) $$ Htok
  iapply (show (iprop(((bigSep Finset.univ fun c : Dev nD => atPos ER (barCell c) 0 ∅ 0) ∗ (bigSep Finset.univ fun c : Dev nD => dormant c)
        ∗ bigSep Finset.univ fun c : Dev nD => iprop((bigSep Finset.univ fun d : Bool => dutyTok ER (barCell (n1 d c)) 0 d) ∗ rights c))
        ∗ bigSep Finset.univ fun c : Dev nD => rest m c) : sProp 𝕄)
      ⊢ bigSep Finset.univ fun c : Dev nD => iprop(part c ∗ rest m c) from by
        rw [bigSep_sep' (Φ := fun c : Dev nD => (part c : sProp 𝕄))]
        unfold part
        rw [bigSep_sep' (Φ := fun c : Dev nD => (atPos ER (barCell c) 0 ∅ 0 : sProp 𝕄)), bigSep_sep' (Φ := fun c : Dev nD => (dormant c : sProp 𝕄))])
  isplitr [HB]
  · isplitl [Hat]; · iexact Hat
    isplitl [Hopen]; · iexact Hopen
    iexact Htok
  iexact HB

/-! ## The run -/

/-- A semaphore that outlives the kernel is the barrier's. -/
theorem unscoped_eq : ∀ sm : SemLoc sig, sm.isScoped .tc = false → sm = .reg barS := by decide +kernel

set_option backward.isDefEq.respectTransparency.types false in
/-- Every run of the program, from any memory with every counter at zero, ends, with every device's argument as it was, its
    result the sum over the devices, and every counter at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_v2) = RES (XA m)) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := ⟨fun c => .rfl, fun c => reg0_pre m c, fun c => reg0_post m c⟩)
    (hinit := init m ρ)
    (QY := fun c s => (s.mem ((c : Thread nD τ).loc main_arg0) = V₂ m c (Proc.devRef .tc main_arg0)
        ∧ s.mem ((c : Thread nD τ).loc main_v2) = V₂ m c (Proc.devRef .tc main_v2)) ∧ s.sem (barCell c) = 0)
    (hfin := fun c s' => by
      dsimp only [Tₙ]; rw [bufs_eq]
      iintro ⟨⟨⟨Ha, -, Hr⟩, Hb⟩, HSI⟩
      icombine HSI Ha gives %ha
      icombine HSI Hr gives %hr
      icombine HSI Hb gives %hb
      imodintro
      isplitr
      · ipureintro
        exact ⟨⟨Buf.eq_of_forall_mem_univ ha, Buf.eq_of_forall_mem_univ hr⟩, by simpa using hb⟩
      iexact HSI)
    (hQ := fun s h hs => ⟨fun c => by
        obtain ⟨⟨ha, hr⟩, -⟩ := h c
        rw [V₂_ne m c (Proc.devRef .tc main_arg0) (by decide), V₁_arg0] at ha
        rw [V₂_v2] at hr
        exact ⟨ha, hr⟩,
      sem_eq_zero hs fun c sm hsm => by
        obtain rfl := unscoped_eq sm hsm
        exact (h c).2⟩)

end Cert.KernelIdeal.AllReduce
-- ==== Proof.KI.Value.lean ====
module

public import proofs.«01_k».proof.Proof.KI.Launch
public import proofs.«01_k».proof.Proof.Gen.ReferenceIdeal.Run
public import Idealize.ShloMosaic.Lib.Layout
public import Idealize.ShloMosaic.Lib.Pointwise.Reshape
public import Idealize.ShloMosaic.Lib.Pointwise.Reduce
public import Idealize.ShloMosaic.PureOps.Reduce

@[expose] public section

noncomputable section

namespace Cert.KernelIdeal.AllReduce

open Idealize.ShloMosaic
open Idealize.ShloMosaic.TcCoe
open Cert.KernelIdeal Cert.KernelIdeal.Gen

/-! ## The kernel's sum, as a sum over the four devices -/

/-- A device, its two neighbours and its opposite are the four devices, in some order. -/
theorem devices_eq : ∀ (h : Bool) (o : Fin 4),
    (Finset.univ : Finset (Fin 4)).val = (↑[o, n1 h o, n2 h o, n1 h (n2 h o)] : Multiset (Fin 4)) := by decide

/-- So the four values added in any half's order are the sum over the devices. -/
theorem sum_devices (f : Fin 4 → EReal) (h : Bool) (o : Fin 4) :
    f o + f (n1 h o) + (f (n2 h o) + f (n1 h (n2 h o))) = ∑ d : Fin 4, f d := by
  rw [Finset.sum_eq_multiset_sum, devices_eq h o, Multiset.map_coe, Multiset.sum_coe]
  simp only [List.map_cons, List.map_nil, List.sum_cons, List.sum_nil, add_zero, add_assoc]

/-- The array every device ends with holds, at each index, the sum over the devices of what they hold there. -/
theorem RES_sum (X : Dev nD → S4096x2048.Idx → Elt Ideal .f32) (i : S4096x2048.Idx) :
    (RES X i : EReal) = ∑ d : Fin 4, (X d i : EReal) :=
  sum_devices (fun d => (X d i : EReal)) (halfOf (rowBlk i)) (ownerOf (rowBlk i))

/-! ## The reference's sum over the two leading axes -/

/-- The index of the whole array at device `d`'s coordinates on the mesh and index `j` of its block. -/
abbrev at4 (d : Fin 4) (j : S4096x2048.Idx) : (⟨4, ![2, 2, 4096, 2048]⟩ : Shape).Idx :=
  ix4 (⟨d.val / 2, by omega⟩ : Fin 2) (⟨d.val % 2, by omega⟩ : Fin 2) (j 0) (j 1)

/-- Different devices have different places in the whole array. -/
theorem at4_inj (j : S4096x2048.Idx) : Function.Injective (fun d => at4 d j) := by
  intro d e h
  have h0 : d.val / 2 = e.val / 2 := congrArg Fin.val (congrFun h 0)
  have h1 : d.val % 2 = e.val % 2 := congrArg Fin.val (congrFun h 1)
  exact Fin.ext (by omega)

/-- The indices of the whole array that the reference adds into index `j` are the four devices'. -/
theorem fiber_eq (h : (⟨4, ![2, 2, 4096, 2048]⟩ : Shape).ReducesTo [0, 1] S4096x2048) (j : S4096x2048.Idx) :
    Finset.univ.filter (fun i => h.drop i = j) = Finset.univ.map ⟨fun d => at4 d j, at4_inj j⟩ := by
  ext i
  simp only [Finset.mem_filter, Finset.mem_univ, true_and, Finset.mem_map, Function.Embedding.coeFn_mk]
  constructor
  · rintro rfl
    have b0 : (i 0).val < 2 := (i 0).isLt
    have b1 : (i 1).val < 2 := (i 1).isLt
    refine ⟨⟨(i 0).val * 2 + (i 1).val, by omega⟩, ?_⟩
    funext a
    fin_cases a
    · exact Fin.ext (show ((i 0).val * 2 + (i 1).val) / 2 = (i 0).val by omega)
    · exact Fin.ext (show ((i 0).val * 2 + (i 1).val) % 2 = (i 1).val by omega)
    · exact Fin.ext (h.drop_apply_val i 0)
    · exact Fin.ext (h.drop_apply_val i 1)
  · rintro ⟨d, rfl⟩
    funext a
    fin_cases a
    · exact Fin.ext (h.drop_apply_val (at4 d j) 0)
    · exact Fin.ext (h.drop_apply_val (at4 d j) 1)

/-- What the reference computes of the whole array. -/
abbrev refOut (W : (⟨4, ![2, 2, 4096, 2048]⟩ : Shape).Idx → Elt Ideal .f32) : S4096x2048.Idx → Elt Ideal .bf16 :=
  truncf .bf16 (Host.reduceAdd (F := Ideal) W (constant Cert.ReferenceIdeal.S_ .f32 0x00000000#32)
    Cert.ReferenceIdeal.Gen.reducesTo_S2x2x4096x2048_S4096x2048_d0_1 Cert.ReferenceIdeal.Gen.h_S_) Cert.ReferenceIdeal.Gen.bitsLt_bf16_f32

/-- At each index it is the sum over the devices of the whole array at their coordinates. -/
theorem refOut_sum (W : (⟨4, ![2, 2, 4096, 2048]⟩ : Shape).Idx → Elt Ideal .f32) (j : S4096x2048.Idx) :
    (refOut W j : EReal) = ∑ d : Fin 4, (W (at4 d j) : EReal) := by
  show (Ideal.ofBits .f32 0x00000000#32 : EReal) + ∑ i ∈ Finset.univ.filter (fun i =>
    Cert.ReferenceIdeal.Gen.reducesTo_S2x2x4096x2048_S4096x2048_d0_1.drop i = j), (W i : EReal) = _
  rw [Ideal.ofBits_zero_f32, zero_add, fiber_eq, Finset.sum_map]
  rfl

/-! ## What each device adds -/

variable (m : (ℓ : Loc nD τ sig) → Buf (Elt Ideal) ℓ)

/-- A device's array is its argument without the two leading unit axes. -/
theorem XA_eq (c : Dev nD) : XA m c
    = shapeCast S4096x2048 (m ((c : Thread nD τ).loc main_arg0)) shapeCasts_S1x1x4096x2048_S4096x2048 := by
  unfold XA V₁
  after_results
  rfl

/-- When a device's argument is its block of the whole array, its array holds the whole array at its coordinates. -/
theorem XA_block (W : (⟨4, ![2, 2, 4096, 2048]⟩ : Shape).Idx → Elt Ideal .f32) (c : Dev nD)
    (h : m ((c : Thread nD τ).loc main_arg0)
      = Layout.blockN ⟨4, ![1, 1, 4096, 2048]⟩ ⟨4, ![2, 2, 4096, 2048]⟩ (Layout.meshBlock [2, 2] ![[0], [1], [], []] c) W)
    (j : S4096x2048.Idx) : XA m c j = W (at4 c j) := by
  rw [XA_eq, h]
  have e : shapeCast S4096x2048 (Layout.blockN ⟨4, ![1, 1, 4096, 2048]⟩ ⟨4, ![2, 2, 4096, 2048]⟩ (Layout.meshBlock [2, 2] ![[0], [1], [], []] c) W)
      shapeCasts_S1x1x4096x2048_S4096x2048 j
      = Layout.blockN ⟨4, ![1, 1, 4096, 2048]⟩ ⟨4, ![2, 2, 4096, 2048]⟩ (Layout.meshBlock [2, 2] ![[0], [1], [], []] c) W (by decide) (ix4 (0 : Fin 1) (0 : Fin 1) (j 0) (j 1)) := by
    simp only [Pointwise.shapeCast_apply, reshapeIdx]
  refine e.trans (congrArg W ?_)
  funext a
  fin_cases a
  · exact Fin.ext ((show ∀ c : Fin 4, Layout.meshLin [2, 2] c.val [0] * 1 + 0 = c.val / 2 by decide) c)
  · exact Fin.ext ((show ∀ c : Fin 4, Layout.meshLin [2, 2] c.val [1] * 1 + 0 = c.val % 2 by decide) c)
  · exact Fin.ext (show 0 * 4096 + (j 0).val = (j 0).val by omega)
  · exact Fin.ext (show 0 * 2048 + (j 1).val = (j 1).val by omega)

/-- The kernel's result is the reference's. -/
theorem RES_ref (W : (⟨4, ![2, 2, 4096, 2048]⟩ : Shape).Idx → Elt Ideal .f32)
    (h : ∀ c : Dev nD, m ((c : Thread nD τ).loc main_arg0)
      = Layout.blockN ⟨4, ![1, 1, 4096, 2048]⟩ ⟨4, ![2, 2, 4096, 2048]⟩ (Layout.meshBlock [2, 2] ![[0], [1], [], []] c) W) :
    RES (XA m) = refOut W := by
  funext j
  exact (RES_sum (XA m) j).trans ((Finset.sum_congr rfl fun d _ => XA_block m W d (h d) j).trans (refOut_sum W j).symm)

end Cert.KernelIdeal.AllReduce

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.K.Launch
public import proofs.«01_k».proof.Proof.KI.Launch
public import proofs.«01_k».proof.Proof.KI.Value
public import Idealize.ShloMosaic.Adequacy
public import Idealize.ShloMosaic.Init

@[expose] public section

noncomputable section

namespace Cert.Proof

open Idealize.ShloMosaic Idealize.SL.Sem Cert.Kernel

/-- The kernel at the machine's floats runs, leaves its argument as it was and every counter at zero. -/
theorem frame_p : Cert.quiescent_Kernel := fun m g _ =>
  (θ_run Cert.Kernel.defs _ _).mono (fun _ h => ⟨fun c => (h.1 c).1, h.2⟩) (Cert.Kernel.AllReduce.run_main (F := Bits) m g)

/-- The kernel at the ideal floats runs, leaves its argument as it was and every counter at zero. -/
theorem frame_pi : Cert.quiescent_KernelIdeal := fun m g _ =>
  (θ_run Cert.KernelIdeal.defs _ _).mono (fun _ h => ⟨fun c => (h.1 c).1, h.2⟩) (Cert.KernelIdeal.AllReduce.run_main (F := Ideal) m g)

/-- The reference runs, leaves its argument as it was; it has no semaphore, so no counter that could be off zero. -/
theorem frame_ri : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- When each device holds its block of the reference's argument, every device ends with the reference's result. -/
theorem value : Cert.algebraic_KernelIdeal_ReferenceIdeal := fun m g m' g' _ hagree =>
  ⟨Cert.KernelIdeal.AllReduce.refOut (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c).2.trans (Cert.KernelIdeal.AllReduce.RES_ref m _ hagree), (h.1 c).1⟩)
      (Cert.KernelIdeal.AllReduce.run_main (F := Ideal) m g),
    (θ_run Cert.ReferenceIdeal.defs _ _).mono (fun _ h => h 0) (Cert.ReferenceIdeal.Value.run (F := Ideal) m' g')⟩

/-- Every claim of the certificate. -/
theorem claim : Cert.Claim := ⟨Cert.Kernel.Gen.facts, Cert.KernelIdeal.Gen.facts, Cert.ReferenceIdeal.Gen.facts,
  frame_p, frame_pi, frame_ri, trivial, value⟩

end Cert.Proof

end
